-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mid_finite [hPre_mid_finite : Cert.Pre_mid_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mid_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mid_finite [hPre_mid_finite : Cert.Pre_mid_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mid_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_mid_finite [hKernelIdeal : Cert.KernelIdeal.Facts] [hPre_mid_finite : Cert.Pre_mid_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mid_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_mid_finite [hReferenceIdeal : Cert.ReferenceIdeal.Facts] [hPre_mid_finite : Cert.Pre_mid_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mid_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "sqrt2" .f32 0x3FB504F3#32 ((Real.sqrt 2 : ℝ) : EReal)

def algebraic_KernelIdeal_ReferenceIdeal_pre_mid_finite [hKernelIdeal : Cert.KernelIdeal.Facts] [hReferenceIdeal : Cert.ReferenceIdeal.Facts] [hPre_mid_finite : Cert.Pre_mid_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mid_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_mid_finite : Cert.Pre_mid_finite.Facts),
    quiescent_Kernel (hKernel := hKernel)
    ∧ quiescent_KernelIdeal (hKernelIdeal := hKernelIdeal)
    ∧ quiescent_KernelIdeal_pre_mid_finite (hKernelIdeal := hKernelIdeal) (hPre_mid_finite := hPre_mid_finite)
    ∧ quiescent_ReferenceIdeal (hReferenceIdeal := hReferenceIdeal)
    ∧ quiescent_ReferenceIdeal_pre_mid_finite (hReferenceIdeal := hReferenceIdeal) (hPre_mid_finite := hPre_mid_finite)
    ∧ preserves_Kernel_KernelIdeal
    ∧ algebraic_KernelIdeal_ReferenceIdeal_pre_mid_finite (hKernelIdeal := hKernelIdeal) (hReferenceIdeal := hReferenceIdeal) (hPre_mid_finite := hPre_mid_finite)
-- ==== Pre_mid_finite.lean ====
abbrev S4x8x2048x8 : Shape := ⟨4, ![4, 8, 2048, 8]⟩
abbrev S2x8x8 : Shape := ⟨3, ![2, 8, 8]⟩
abbrev S8 : Shape := ⟨1, ![8]⟩
abbrev S16384x768 : Shape := ⟨2, ![16384, 768]⟩
abbrev S256x768 : Shape := ⟨2, ![256, 768]⟩
abbrev S768 : Shape := ⟨1, ![768]⟩
abbrev S256x128 : Shape := ⟨2, ![256, 128]⟩
abbrev S128 : Shape := ⟨1, ![128]⟩
abbrev S4x1x2048x8 : Shape := ⟨4, ![4, 1, 2048, 8]⟩
abbrev S4x2048x8 : Shape := ⟨3, ![4, 2048, 8]⟩
abbrev S_ : Shape := ⟨0, ![]⟩

class Facts : Prop where
  slices_S4x8x2048x8_S4x1x2048x8_0_4_0_0 : S4x8x2048x8.Slices ![0, 4, 0, 0] S4x1x2048x8
  shapeCasts_S4x1x2048x8_S4x2048x8 : S4x1x2048x8.ShapeCasts S4x2048x8
  bcast_S_S4x2048x8 : S_.BroadcastsInDim S4x2048x8 (![] : Fin 0 → Fin S4x2048x8.rank)
  reducesTo_S4x2048x8_S_d0_1_2 : S4x2048x8.ReducesTo [0, 1, 2] S_
  h_S_ : 0 < S_.numel

variable [Facts]

def fn {F : FTy → Type} [FloatOps F] (main_arg0 : FVec F S4x8x2048x8 .f32) (main_arg1 : FVec F S2x8x8 .f32) (main_arg2 : FVec F S8 .f32) (main_arg3 : FVec F S16384x768 .f32) (main_arg4 : FVec F S256x768 .f32) (main_arg5 : FVec F S768 .f32) (main_arg6 : FVec F S768 .f32) (main_arg7 : FVec F S256x128 .f32) (main_arg8 : FVec F S128 .f32) : IVec S_ 1 :=
  let main_v0 : FVec F S4x1x2048x8 .f32 := (extractStridedSlice S4x1x2048x8 ![0, 4, 0, 0] · slices_S4x8x2048x8_S4x1x2048x8_0_4_0_0) main_arg0
  let main_v1 : FVec F S4x2048x8 .f32 := shapeCast S4x2048x8 main_v0 shapeCasts_S4x1x2048x8_S4x2048x8
  let main_v2 : FVec F S4x2048x8 .f32 := Host.absf main_v1
  let main_cst : FVec F S_ .f32 := constant S_ .f32 0x7F800000#32
  let main_v3 : FVec F S4x2048x8 .f32 := broadcastInDim S4x2048x8 ![] bcast_S_S4x2048x8 main_cst
  let main_v4 : IVec S4x2048x8 1 := cmpf .olt main_v2 main_v3
  let main_c : IVec S_ 1 := constantI S_ 1 1#1
  let main_v5 : IVec S_ 1 := (fun x v => Host.reduce IntOp.andi x v reducesTo_S4x2048x8_S_d0_1_2 h_S_) main_v4 main_c
  main_v5
-- ==== Kernel.lean ====
abbrev S4x8x2048x8 : Shape := ⟨4, ![4, 8, 2048, 8]⟩
abbrev S2x8x8 : Shape := ⟨3, ![2, 8, 8]⟩
abbrev S8 : Shape := ⟨1, ![8]⟩
abbrev S16384x768 : Shape := ⟨2, ![16384, 768]⟩
abbrev S256x768 : Shape := ⟨2, ![256, 768]⟩
abbrev S768 : Shape := ⟨1, ![768]⟩
abbrev S256x128 : Shape := ⟨2, ![256, 128]⟩
abbrev S128 : Shape := ⟨1, ![128]⟩
abbrev S4x2048x8x8 : Shape := ⟨4, ![4, 2048, 8, 8]⟩
abbrev S4x2048x64 : Shape := ⟨3, ![4, 2048, 64]⟩
abbrev S8x8 : Shape := ⟨2, ![8, 8]⟩
abbrev S_ : Shape := ⟨0, ![]⟩
abbrev S64 : Shape := ⟨1, ![64]⟩
abbrev S1x8x8 : Shape := ⟨3, ![1, 8, 8]⟩
abbrev S8x1x8x1 : Shape := ⟨4, ![8, 1, 8, 1]⟩
abbrev S1x8x1x8 : Shape := ⟨4, ![1, 8, 1, 8]⟩
abbrev S8x8x8x8 : Shape := ⟨4, ![8, 8, 8, 8]⟩
abbrev S64x64 : Shape := ⟨2, ![64, 64]⟩
abbrev S64x1 : Shape := ⟨2, ![64, 1]⟩
abbrev S64x128 : Shape := ⟨2, ![64, 128]⟩
abbrev S4x64x2048 : Shape := ⟨3, ![4, 64, 2048]⟩
abbrev S1x2048x64 : Shape := ⟨3, ![1, 2048, 64]⟩
abbrev S1x64x2048 : Shape := ⟨3, ![1, 64, 2048]⟩
abbrev S2048x2048 : Shape := ⟨2, ![2048, 2048]⟩
abbrev S2048x64 : Shape := ⟨2, ![2048, 64]⟩
abbrev S2048x8 : Shape := ⟨2, ![2048, 8]⟩
abbrev S2048 : Shape := ⟨1, ![2048]⟩
abbrev S2048x1 : Shape := ⟨2, ![2048, 1]⟩
abbrev S1x2048 : Shape := ⟨2, ![1, 2048]⟩
abbrev S64x2048 : Shape := ⟨2, ![64, 2048]⟩
abbrev S2048x8x768 : Shape := ⟨3, ![2048, 8, 768]⟩
abbrev S1x768 : Shape := ⟨2, ![1, 768]⟩
abbrev S1x128 : Shape := ⟨2, ![1, 128]⟩
abbrev S4x128 : Shape := ⟨2, ![4, 128]⟩
abbrev S4x64x256 : Shape := ⟨3, ![4, 64, 256]⟩
abbrev S256x8x768 : Shape := ⟨3, ![256, 8, 768]⟩
abbrev S32x768 : Shape := ⟨2, ![32, 768]⟩
abbrev S4x8x256 : Shape := ⟨3, ![4, 8, 256]⟩
abbrev S32x256 : Shape := ⟨2, ![32, 256]⟩
abbrev S256x1x768 : Shape := ⟨3, ![256, 1, 768]⟩
abbrev S4x8x768 : Shape := ⟨3, ![4, 8, 768]⟩
abbrev S4x256 : Shape := ⟨2, ![4, 256]⟩
abbrev S4x1x768 : Shape := ⟨3, ![4, 1, 768]⟩
abbrev S4x768 : Shape := ⟨2, ![4, 768]⟩

abbrev nBuf : Space → Nat
  | .hbm => 111
  | .vmem => 19
  | .smem => 0
  | _ => 0

abbrev bufTy : (tb : Table) → Fin (tcTables nBuf tb) → BufTy
  | .hbm, ⟨0, _⟩ => ⟨S4x8x2048x8, .f32⟩
  | .hbm, ⟨1, _⟩ => ⟨S2x8x8, .f32⟩
  | .hbm, ⟨2, _⟩ => ⟨S8, .f32⟩
  | .hbm, ⟨3, _⟩ => ⟨S16384x768, .f32⟩
  | .hbm, ⟨4, _⟩ => ⟨S256x768, .f32⟩
  | .hbm, ⟨5, _⟩ => ⟨S768, .f32⟩
  | .hbm, ⟨6, _⟩ => ⟨S768, .f32⟩
  | .hbm, ⟨7, _⟩ => ⟨S256x128, .f32⟩
  | .hbm, ⟨8, _⟩ => ⟨S128, .f32⟩
  | .hbm, ⟨9, _⟩ => ⟨S4x2048x8x8, .f32⟩
  | .hbm, ⟨10, _⟩ => ⟨S4x2048x64, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S64, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S_, .i32⟩
  | .hbm, ⟨34, _⟩ => ⟨S_, .i1⟩
  | .hbm, ⟨35, _⟩ => ⟨S64, .i1⟩
  | .hbm, ⟨36, _⟩ => ⟨S64, .i1⟩
  | .hbm, ⟨37, _⟩ => ⟨S64, .i1⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S_, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S64, .i32⟩
  | .hbm, ⟨53, _⟩ => ⟨S64, .i32⟩
  | .hbm, ⟨54, _⟩ => ⟨S_, .i32⟩
  | .hbm, ⟨55, _⟩ => ⟨S64, .i32⟩
  | .hbm, ⟨56, _⟩ => ⟨S64, .i1⟩
  | .hbm, ⟨57, _⟩ => ⟨S64, .i1⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64, .i32⟩
  | .hbm, ⟨63, _⟩ => ⟨S1x8x8, .f32⟩
  | .hbm, ⟨64, _⟩ => ⟨S8x8, .f32⟩
  | .hbm, ⟨65, _⟩ => ⟨S8x1x8x1, .f32⟩
  | .hbm, ⟨66, _⟩ => ⟨S1x8x1x8, .f32⟩
  | .hbm, ⟨67, _⟩ => ⟨S8x8x8x8, .f32⟩
  | .hbm, ⟨68, _⟩ => ⟨S8x8x8x8, .f32⟩
  | .hbm, ⟨69, _⟩ => ⟨S8x8x8x8, .f32⟩
  | .hbm, ⟨70, _⟩ => ⟨S64x64, .f32⟩
  | .hbm, ⟨71, _⟩ => ⟨S64x64, .f32⟩
  | .hbm, ⟨72, _⟩ => ⟨S_, .i32⟩
  | .hbm, ⟨73, _⟩ => ⟨S64, .i32⟩
  | .hbm, ⟨74, _⟩ => ⟨S64, .i1⟩
  | .hbm, ⟨75, _⟩ => ⟨S_, .i32⟩
  | .hbm, ⟨76, _⟩ => ⟨S64, .i32⟩
  | .hbm, ⟨77, _⟩ => ⟨S64, .i32⟩
  | .hbm, ⟨78, _⟩ => ⟨S64, .i32⟩
  | .hbm, ⟨79, _⟩ => ⟨S64x1, .i32⟩
  | .hbm, ⟨80, _⟩ => ⟨S64x64, .f32⟩
  | .hbm, ⟨81, _⟩ => ⟨S64x64, .bf16⟩
  | .hbm, ⟨82, _⟩ => ⟨S1x8x8, .f32⟩
  | .hbm, ⟨83, _⟩ => ⟨S8x8, .f32⟩
  | .hbm, ⟨84, _⟩ => ⟨S8x1x8x1, .f32⟩
  | .hbm, ⟨85, _⟩ => ⟨S1x8x1x8, .f32⟩
  | .hbm, ⟨86, _⟩ => ⟨S8x8x8x8, .f32⟩
  | .hbm, ⟨87, _⟩ => ⟨S8x8x8x8, .f32⟩
  | .hbm, ⟨88, _⟩ => ⟨S8x8x8x8, .f32⟩
  | .hbm, ⟨89, _⟩ => ⟨S64x64, .f32⟩
  | .hbm, ⟨90, _⟩ => ⟨S64x64, .f32⟩
  | .hbm, ⟨91, _⟩ => ⟨S_, .i32⟩
  | .hbm, ⟨92, _⟩ => ⟨S64, .i32⟩
  | .hbm, ⟨93, _⟩ => ⟨S64, .i1⟩
  | .hbm, ⟨94, _⟩ => ⟨S_, .i32⟩
  | .hbm, ⟨95, _⟩ => ⟨S64, .i32⟩
  | .hbm, ⟨96, _⟩ => ⟨S64, .i32⟩
  | .hbm, ⟨97, _⟩ => ⟨S64, .i32⟩
  | .hbm, ⟨98, _⟩ => ⟨S64x1, .i32⟩
  | .hbm, ⟨99, _⟩ => ⟨S64x64, .f32⟩
  | .hbm, ⟨100, _⟩ => ⟨S64x64, .bf16⟩
  | .hbm, ⟨101, _⟩ => ⟨S8x8, .f32⟩
  | .hbm, ⟨102, _⟩ => ⟨S64, .f32⟩
  | .hbm, ⟨103, _⟩ => ⟨S64x1, .f32⟩
  | .hbm, ⟨104, _⟩ => ⟨S64x128, .f32⟩
  | .hbm, ⟨105, _⟩ => ⟨S4x64x2048, .bf16⟩
  | .hbm, ⟨106, _⟩ => ⟨S2048x8x768, .f32⟩
  | .hbm, ⟨107, _⟩ => ⟨S1x768, .f32⟩
  | .hbm, ⟨108, _⟩ => ⟨S1x768, .f32⟩
  | .hbm, ⟨109, _⟩ => ⟨S1x128, .f32⟩
  | .hbm, ⟨110, _⟩ => ⟨S4x128, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .bf16⟩
  | .local _ .vmem, ⟨3, _⟩ => ⟨S64x64, .bf16⟩
  | .local _ .vmem, ⟨4, _⟩ => ⟨S64x128, .f32⟩
  | .local _ .vmem, ⟨5, _⟩ => ⟨S1x64x2048, .bf16⟩
  | .local _ .vmem, ⟨6, _⟩ => ⟨S1x64x2048, .bf16⟩
  | .local _ .vmem, ⟨7, _⟩ => ⟨S2048x2048, .bf16⟩
  | .local _ .vmem, ⟨8, _⟩ => ⟨S4x64x256, .bf16⟩
  | .local _ .vmem, ⟨9, _⟩ => ⟨S4x64x256, .bf16⟩
  | .local _ .vmem, ⟨10, _⟩ => ⟨S256x8x768, .f32⟩
  | .local _ .vmem, ⟨11, _⟩ => ⟨S256x8x768, .f32⟩
  | .local _ .vmem, ⟨12, _⟩ => ⟨S1x768, .f32⟩
  | .local _ .vmem, ⟨13, _⟩ => ⟨S256x768, .f32⟩
  | .local _ .vmem, ⟨14, _⟩ => ⟨S1x768, .f32⟩
  | .local _ .vmem, ⟨15, _⟩ => ⟨S256x128, .f32⟩
  | .local _ .vmem, ⟨16, _⟩ => ⟨S1x128, .f32⟩
  | .local _ .vmem, ⟨17, _⟩ => ⟨S4x128, .f32⟩
  | .local _ .vmem, ⟨18, _⟩ => ⟨S32x768, .f32⟩
  | _, _ => ⟨S4x8x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v9 : Ref sig .tc := ⟨.hbm, 40, rfl⟩
abbrev main_c_1 : Ref sig .tc := ⟨.hbm, 41, rfl⟩
abbrev main_v10 : Ref sig .tc := ⟨.hbm, 42, rfl⟩
abbrev main_v11 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v16 : Ref sig .tc := ⟨.hbm, 70, rfl⟩
abbrev main_v17 : Ref sig .tc := ⟨.hbm, 71, rfl⟩
abbrev main_c_3 : Ref sig .tc := ⟨.hbm, 72, rfl⟩
abbrev main_v18 : Ref sig .tc := ⟨.hbm, 73, rfl⟩
abbrev main_v19 : Ref sig .tc := ⟨.hbm, 74, rfl⟩
abbrev main_c_4 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v28 : Ref sig .tc := ⟨.hbm, 89, rfl⟩
abbrev main_v29 : Ref sig .tc := ⟨.hbm, 90, rfl⟩
abbrev main_c_5 : Ref sig .tc := ⟨.hbm, 91, rfl⟩
abbrev main_v30 : Ref sig .tc := ⟨.hbm, 92, rfl⟩
abbrev main_v31 : Ref sig .tc := ⟨.hbm, 93, rfl⟩
abbrev main_c_6 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v62 : BitVec 1 := Scalar.cmpi .eq arg0 c7_i32
  let v63 : BitVec 32 := Scalar.extui v62
  let c0_i32_18 : BitVec 32 := 0#32
  let v64 : BitVec 1 := Scalar.cmpi .ne v63 c0_i32_18
  v64

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x64x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x8x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "sqrt2" => some ((Real.sqrt 2 : ℝ) : EReal)
  | _ => none
-- ==== ReferenceIdeal.lean ====
abbrev S4x8x2048x8 : Shape := ⟨4, ![4, 8, 2048, 8]⟩
abbrev S2x8x8 : Shape := ⟨3, ![2, 8, 8]⟩
abbrev S8 : Shape := ⟨1, ![8]⟩
abbrev S16384x768 : Shape := ⟨2, ![16384, 768]⟩
abbrev S256x768 : Shape := ⟨2, ![256, 768]⟩
abbrev S768 : Shape := ⟨1, ![768]⟩
abbrev S256x128 : Shape := ⟨2, ![256, 128]⟩
abbrev S128 : Shape := ⟨1, ![128]⟩
abbrev S4x1x2048x8 : Shape := ⟨4, ![4, 1, 2048, 8]⟩
abbrev S4x2048x8 : Shape := ⟨3, ![4, 2048, 8]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S1x8x8 : Shape := ⟨3, ![1, 8, 8]⟩
abbrev S8x8 : Shape := ⟨2, ![8, 8]⟩
abbrev S4x8x8x2048 : Shape := ⟨4, ![4, 8, 8, 2048]⟩
abbrev S1x1x1x8 : Shape := ⟨4, ![1, 1, 1, 8]⟩
abbrev S4x8x16384 : Shape := ⟨3, ![4, 8, 16384]⟩
abbrev S8x4x16384 : Shape := ⟨3, ![8, 4, 16384]⟩
abbrev S4x256 : Shape := ⟨2, ![4, 256]⟩
abbrev S8x4x256 : Shape := ⟨3, ![8, 4, 256]⟩
abbrev S1x4x16384 : Shape := ⟨3, ![1, 4, 16384]⟩
abbrev S4x16384 : Shape := ⟨2, ![4, 16384]⟩
abbrev S4x768 : Shape := ⟨2, ![4, 768]⟩
abbrev S1x768 : Shape := ⟨2, ![1, 768]⟩
abbrev S1x4x256 : Shape := ⟨3, ![1, 4, 256]⟩
abbrev S4x128 : Shape := ⟨2, ![4, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S4x8x2048x8, .f32⟩
  | 1 => ⟨S2x8x8, .f32⟩
  | 2 => ⟨S8, .f32⟩
  | 3 => ⟨S16384x768, .f32⟩
  | 4 => ⟨S256x768, .f32⟩
  | 5 => ⟨S768, .f32⟩
  | 6 => ⟨S768, .f32⟩
  | 7 => ⟨S256x128, .f32⟩
  | 8 => ⟨S128, .f32⟩
  | 9 => ⟨S4x1x2048x8, .f32⟩
  | 10 => ⟨S4x2048x8, .f32⟩
  | 11 => ⟨S4x2048x8, .f32⟩
  | 12 => ⟨S_, .f32⟩
  | 13 => ⟨S4x2048, .f32⟩
  | 14 => ⟨S4x2048x1, .f32⟩
  | 15 => ⟨S4x1x2048, .f32⟩
  | 16 => ⟨S4x2048x2048, .f32⟩
  | 17 => ⟨S4x2048x2048, .f32⟩
  | 18 => ⟨S4x2048x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x2048, .f32⟩
  | 24 => ⟨S_, .f32⟩
  | 25 => ⟨S4x2048x2048, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x2048, .f32⟩
  | 32 => ⟨S_, .f32⟩
  | 33 => ⟨S4x2048, .f32⟩
  | 34 => ⟨S_, .f32⟩
  | 35 => ⟨S4x2048, .f32⟩
  | 36 => ⟨S4x2048, .f32⟩
  | 37 => ⟨S4x2048, .f32⟩
  | 38 => ⟨S_, .f32⟩
  | 39 => ⟨S4x2048, .f32⟩
  | 40 => ⟨S4x2048, .f32⟩
  | 41 => ⟨S4x2048x1, .f32⟩
  | 42 => ⟨S4x2048x2048, .f32⟩
  | 43 => ⟨S4x2048x2048, .f32⟩
  | 44 => ⟨S4x1x2048, .f32⟩
  | 45 => ⟨S4x2048x2048, .f32⟩
  | 46 => ⟨S4x2048x2048, .f32⟩
  | 47 => ⟨S1x8x8, .f32⟩
  | 48 => ⟨S8x8, .f32⟩
  | 49 => ⟨S4x8x2048x8, .f32⟩
  | 50 => ⟨S4x8x8x2048, .f32⟩
  | 51 => ⟨S4x8x2048x8, .f32⟩
  | 52 => ⟨S1x8x8, .f32⟩
  | 53 => ⟨S8x8, .f32⟩
  | 54 => ⟨S4x8x2048x8, .f32⟩
  | 55 => ⟨S4x8x2048x8, .f32⟩
  | 56 => ⟨S1x1x1x8, .f32⟩
  | 57 => ⟨S4x8x2048x8, .f32⟩
  | 58 => ⟨S4x8x2048x8, .f32⟩
  | 59 => ⟨S_, .f32⟩
  | 60 => ⟨S4x8x2048x8, .f32⟩
  | 61 => ⟨S4x8x2048x8, .f32⟩
  | 62 => ⟨S4x8x16384, .f32⟩
  | 63 => ⟨S8x4x16384, .f32⟩
  | 64 => ⟨S_, .f32⟩
  | 65 => ⟨S4x256, .f32⟩
  | 66 => ⟨S_, .f32⟩
  | 67 => ⟨S8x4x256, .f32⟩
  | 68 => ⟨S_, .i32⟩
  | 69 => ⟨S8x4x16384, .f32⟩
  | 70 => ⟨S16384x768, .f32⟩
  | 71 => ⟨S768, .f32⟩
  | 72 => ⟨S256x768, .f32⟩
  | 73 => ⟨S768, .f32⟩
  | 74 => ⟨S_, .i32⟩
  | 75 => ⟨S4x256, .f32⟩
  | 76 => ⟨S8x4x256, .f32⟩
  | 77 => ⟨S_, .i32⟩
  | 78 => ⟨S_, .i1⟩
  | 79 => ⟨S_, .i32⟩
  | 80 => ⟨S_, .i32⟩
  | 81 => ⟨S1x4x16384, .f32⟩
  | 82 => ⟨S4x16384, .f32⟩
  | 83 => ⟨S4x768, .f32⟩
  | 84 => ⟨S1x768, .f32⟩
  | 85 => ⟨S4x768, .f32⟩
  | 86 => ⟨S4x768, .f32⟩
  | 87 => ⟨S4x768, .f32⟩
  | 88 => ⟨S1x768, .f32⟩
  | 89 => ⟨S4x768, .f32⟩
  | 90 => ⟨S4x768, .f32⟩
  | 91 => ⟨S4x256, .f32⟩
  | 92 => ⟨S4x256, .f32⟩
  | 93 => ⟨S4x256, .f32⟩
  | 94 => ⟨S4x256, .f32⟩
  | 95 => ⟨S4x256, .f32⟩
  | 96 => ⟨S4x256, .f32⟩
  | 97 => ⟨S4x256, .f32⟩
  | 98 => ⟨S4x256, .f32⟩
  | 99 => ⟨S4x256, .f32⟩
  | 100 => ⟨S_, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S4x256, .f32⟩
  | 107 => ⟨S4x256, .f32⟩
  | 108 => ⟨S4x256, .f32⟩
  | 109 => ⟨S_, .f32⟩
  | 110 => ⟨S4x256, .f32⟩
  | 111 => ⟨S4x256, .f32⟩
  | 112 => ⟨S_, .f32⟩
  | 113 => ⟨S4x256, .f32⟩
  | 114 => ⟨S4x256, .f32⟩
  | 115 => ⟨S4x256, .f32⟩
  | 116 => ⟨S4x256, .f32⟩
  | 117 => ⟨S4x256, .f32⟩
  | 118 => ⟨S_, .f32⟩
  | 119 => ⟨S4x256, .f32⟩
  | 120 => ⟨S4x256, .f32⟩
  | 121 => ⟨S4x256, .f32⟩
  | 122 => ⟨S4x256, .f32⟩
  | 123 => ⟨S4x256, .f32⟩
  | 124 => ⟨S1x4x256, .f32⟩
  | 125 => ⟨S_, .i32⟩
  | 126 => ⟨S_, .i32⟩
  | 127 => ⟨S8x4x256, .f32⟩
  | _ => ⟨S4x8x2048x8, .f32⟩

abbrev hbmTy0_1 (i : Nat) : BufTy := match i % 128 with
  | 0 => ⟨S_, .i32⟩
  | 1 => ⟨S_, .i32⟩
  | 2 => ⟨S4x128, .f32⟩
  | 3 => ⟨S1x128, .f32⟩
  | 4 => ⟨S4x128, .f32⟩
  | 5 => ⟨S4x128, .f32⟩
  | _ => ⟨S4x8x2048x8, .f32⟩

abbrev hbmTy (i : Nat) : BufTy := match i / 128 with
  | 0 => hbmTy0_0 i
  | 1 => hbmTy0_1 i
  | _ => ⟨S4x8x2048x8, .f32⟩

abbrev bufTy : (tb : Table) → Fin (tcTables nBuf tb) → BufTy
  | .hbm, ⟨i, _⟩ => hbmTy i
  | _, _ => ⟨S4x8x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_c : Ref sig .tc := ⟨.hbm, 68, rfl⟩
abbrev main_v48_0 : Ref sig .tc := ⟨.hbm, 69, rfl⟩
abbrev main_v48_1 : Ref sig .tc := ⟨.hbm, 70, rfl⟩
abbrev main_v48_2 : Ref sig .tc := ⟨.hbm, 71, rfl⟩
abbrev main_v48_3 : Ref sig .tc := ⟨.hbm, 72, rfl⟩
abbrev main_v48_4 : Ref sig .tc := ⟨.hbm, 73, rfl⟩
abbrev main_v48_5 : Ref sig .tc := ⟨.hbm, 74, rfl⟩
abbrev main_v48_6 : Ref sig .tc := ⟨.hbm, 75, rfl⟩
abbrev main_v48_7 : Ref sig .tc := ⟨.hbm, 76, rfl⟩
abbrev main_while0c_c_15 : Ref sig .tc := ⟨.hbm, 77, rfl⟩
abbrev main_while0c_v53 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_v0 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_cst_15 : Ref sig .tc := ⟨.hbm, 100, rfl⟩
abbrev main_while0b_v71 : Ref sig .tc := ⟨.hbm, 101, rfl⟩
abbrev main_while0b_v72 : Ref sig .tc := ⟨.hbm, 102, rfl⟩
abbrev main_while0b_cst_16 : Ref sig .tc := ⟨.hbm, 103, rfl⟩
abbrev main_while0b_v73 : Ref sig .tc := ⟨.hbm, 104, rfl⟩
abbrev main_while0b_v74 : Ref sig .tc := ⟨.hbm, 105, rfl⟩
abbrev main_while0b_v75 : Ref sig .tc := ⟨.hbm, 106, rfl⟩
abbrev main_while0b_v76 : Ref sig .tc := ⟨.hbm, 107, rfl⟩
abbrev main_while0b_v77 : Ref sig .tc := ⟨.hbm, 108, rfl⟩
abbrev main_while0b_cst_17 : Ref sig .tc := ⟨.hbm, 109, rfl⟩
abbrev main_while0b_v78 : Ref sig .tc := ⟨.hbm, 110, rfl⟩
abbrev main_while0b_v79 : Ref sig .tc := ⟨.hbm, 111, rfl⟩
abbrev main_while0b_cst_18 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_cst_19 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_call2_v0 : Ref sig .tc := ⟨.hbm, 124, rfl⟩
abbrev main_while0b_call2_c : Ref sig .tc := ⟨.hbm, 125, rfl⟩
abbrev main_while0b_call2_c_0 : Ref sig .tc := ⟨.hbm, 126, rfl⟩
abbrev main_while0b_v90 : Ref sig .tc := ⟨.hbm, 127, rfl⟩
abbrev main_while0b_c_20 : Ref sig .tc := ⟨.hbm, 128, rfl⟩
abbrev main_while0b_v91 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩

abbrev nD : Nat := 1
abbrev τ : Topo := Topo.v7x

variable {F : FTy → Type} [FloatOps F]

abbrev main_while0_count : Scf.Loop 32 := ⟨0#32, 8#32, 1#32⟩
-- ==== Proof.KernelIdeal.ConvBody.lean ====
/-
  The graph-convolution kernel's body, once: on whole staging buffers holding one batch element's rows, the two expanded
  weight matrices and the expanded bias, the body leaves the inputs as they were and the output buffer holding `convBlock`
  of them. The adjacency scratch is overwritten whole before it is read, so what it held before does not matter.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load of a whole buffer known to hold `x` reads `x`. -/
theorem whole_load {s : Shape} {e : EltTy} {arg : Memref sig .tc .vmem s e} (h : arg.IsWhole) (x : s.Idx → Elt F e) {off : Fin s.rank → ℕ}
    (inb : ∀ a, off a + s.size a ≤ s.size a) :
    arg.view.readAt (Elt F) (Rect.unit off s.size inb).toLoadRect (h.unread x) = x :=
  (View.readAt_full _ _ _).trans (h.read_unread x)

/-- What the convolution's body computes from one batch element `x`, the two expanded weights and the expanded bias. -/
def convBlock (x : Vec F S1x2048x64 .f32) (w0 w1 : Vec F S64x64 .bf16) (b : Vec F S64x128 .f32) : Vec F S1x64x2048 .bf16 :=
  k0_pay1 (k0_pay5 x (k0_pay4 x)) (k0_pay6 x w0) w1 b

set_option maxHeartbeats 1000000 in
/-- The body on whole buffers: inputs kept, the output at `convBlock`, the scratch at something. -/
theorem conv_body (c : Dev nD) (i : grid0.Coords) (arg1 : Memref sig .tc .vmem S1x2048x64 .f32) (harg1 : arg1.IsWhole)
    (arg2 : Memref sig .tc .vmem S64x64 .bf16) (harg2 : arg2.IsWhole) (arg3 : Memref sig .tc .vmem S64x64 .bf16) (harg3 : arg3.IsWhole)
    (arg4 : Memref sig .tc .vmem S64x128 .f32) (harg4 : arg4.IsWhole) (arg5 : Memref sig .tc .vmem S1x64x2048 .bf16) (harg5 : arg5.IsWhole)
    (arg6 : Memref sig .tc .vmem S2048x2048 .bf16) (harg6 : arg6.IsWhole)
    (x : Vec F S1x2048x64 .f32) (w0 w1 : Vec F S64x64 .bf16) (b : Vec F S64x128 .f32) (E : Set ℕ) (K : PUnit → sProp 𝕄) :
    iprop(owns (c : Thread nD τ) arg1 fullShare x ∗ owns (c : Thread nD τ) arg2 fullShare w0 ∗ owns (c : Thread nD τ) arg3 fullShare w1
        ∗ owns (c : Thread nD τ) arg4 fullShare b ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w0 ∗ owns (c : Thread nD τ) arg3 fullShare w1
          ∗ owns (c : Thread nD τ) arg4 fullShare b ∗ owns (c : Thread nD τ) arg5 fullShare (convBlock x w0 w1 b)
          ∗ (∃ d, owns (c : Thread nD τ) arg6 fullShare d)) -∗ K ⟨⟩))
      ⊢ wp frame (wpE (defs₀ (F := F)) Variants.none c none) E
          (cc0_body i arg1 harg1 arg2 harg2 arg3 harg3 arg4 harg4 arg5 harg5 arg6 harg6) K := by
  simp only [cc0_body_eq_skeleton]; unfold cc0_body_skel
  simp only [k0_part1_eq_skeleton]
  unfold owns
  iintro ⟨⟨%f1, %h1, H1⟩, ⟨%f2, %h2, H2⟩, ⟨%f3, %h3, H3⟩, ⟨%f4, %h4, H4⟩, ⟨%d5, %f5, %h5, H5⟩, ⟨%d6, %f6, %h6, H6⟩, Hk⟩
  obtain rfl := harg1.eq_unread h1; obtain rfl := harg2.eq_unread h2; obtain rfl := harg3.eq_unread h3
  obtain rfl := harg4.eq_unread h4
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_full _ _ _ _ _).trans ?_
    unfold conv_body.sl.r conv_body.sl.r_1
    have e1 := whole_load harg1 x inb_S1x2048x64_S1x2048x64_0_0_0
    exact congr (congr (congr (congrArg k0_pay1 (congr (congrArg k0_pay5 e1) ((View.readCov_full _ _ _ _ _).trans (congrArg k0_pay4 e1))))
      (congr (congrArg k0_pay6 e1) (whole_load harg2 w0 inb_S64x64_S64x64_0_0)))
      (whole_load harg3 w1 inb_S64x64_S64x64_0_0)) (whole_load harg4 b inb_S64x128_S64x128_0_0)
  iexists _; iexists _; isplitr
  swap; · iexact H6
  ipureintro; exact rfl

end Cert.KernelIdeal.Region

end
-- ==== Proof.KernelIdeal.GruBody.lean ====
/-
  The recurrent kernel's body, once. The accumulator scratch holds the running sum of the input projection: at the first
  grid point it is cleared, at every point the block's contribution is added (`accStep`), and at the last point the eight
  unrolled recurrent steps and the final projection are computed from it (`finish`) and stored.
-/
module

public import proofs.«01_k».proof.Proof.KernelIdeal.ConvBody
public import Idealize.ShloMosaic.Lib.Ring

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The accumulator after one grid point: the block's eight products added, one after the other, to what it held. -/
def accStep (x : Vec F S4x64x256 .bf16) (w : Vec F S256x8x768 .f32) (acc : Vec F S32x768 .f32) : Vec F S32x768 .f32 :=
  k1_pay1 (k1_pay20 x) (k1_pay21 w) (k1_pay22 x w) (k1_pay23 x) (k1_pay24 w) (constant S32x768 .f32 0x00000000#32) acc

/-- The hidden state after the first three recurrent steps, from the projections, the recurrent weights and the biases. -/
def hidden3 (acc : Vec F S32x768 .f32) (bi : Vec F S1x768 .f32) (wh : Vec F S256x768 .f32) (bh : Vec F S1x768 .f32) : FVec F S4x256 .f32 :=
  k1_pay12 wh (k1_pay3 bh) (k1_pay4 acc bi) (k1_pay5 acc bi wh bh) (k1_pay8 acc bi wh bh) (k1_pay9 acc bi wh bh) (k1_pay10 acc bi)
    (k1_pay11 acc bi wh bh)

/-- What the last grid point stores: eight recurrent steps from zero, then the output projection. -/
def finish (acc : Vec F S32x768 .f32) (bi : Vec F S1x768 .f32) (wh : Vec F S256x768 .f32) (bh : Vec F S1x768 .f32)
    (wf : Vec F S256x128 .f32) (bf : Vec F S1x128 .f32) : Vec F S4x128 .f32 :=
  k1_pay2 wh (k1_pay3 bh) (k1_pay4 acc bi) (k1_pay14 wh (k1_pay3 bh) (k1_pay4 acc bi) (hidden3 acc bi wh bh) (k1_pay13 (k1_pay4 acc bi)))
    (k1_pay15 (k1_pay4 acc bi))
    (k1_pay16 wh (k1_pay3 bh) (k1_pay4 acc bi) (hidden3 acc bi wh bh) (k1_pay13 (k1_pay4 acc bi)))
    (k1_pay17 wh (k1_pay3 bh) (k1_pay4 acc bi) (hidden3 acc bi wh bh) (k1_pay13 (k1_pay4 acc bi)))
    (k1_pay18 (k1_pay4 acc bi)) wf bf

/-- The body is at the first grid point. -/
abbrev AtFirst (i : grid1.Coords) : Prop :=
  (Scalar.cmpi .ne (Scalar.extui (Scalar.cmpi .eq (BitVec.ofNat 32 (i 0).val) 0#32)) 0#32) = 1#1

/-- The body is at the last grid point. -/
abbrev AtLast (i : grid1.Coords) : Prop := k1_cond2 i = 1#1

set_option maxHeartbeats 1000000 in
/-- The first grid point: the accumulator is cleared and the block added. -/
theorem gru_first (c : Dev nD) (i : grid1.Coords) (arg1 : Memref sig .tc .vmem S4x64x256 .bf16) (harg1 : arg1.IsWhole)
    (arg2 : Memref sig .tc .vmem S256x8x768 .f32) (harg2 : arg2.IsWhole) (arg3 : Memref sig .tc .vmem S1x768 .f32) (harg3 : arg3.IsWhole)
    (arg4 : Memref sig .tc .vmem S256x768 .f32) (harg4 : arg4.IsWhole) (arg5 : Memref sig .tc .vmem S1x768 .f32) (harg5 : arg5.IsWhole)
    (arg6 : Memref sig .tc .vmem S256x128 .f32) (harg6 : arg6.IsWhole) (arg7 : Memref sig .tc .vmem S1x128 .f32) (harg7 : arg7.IsWhole)
    (arg8 : Memref sig .tc .vmem S4x128 .f32) (harg8 : arg8.IsWhole) (arg9 : Memref sig .tc .vmem S32x768 .f32) (harg9 : arg9.IsWhole)
    (x : Vec F S4x64x256 .bf16) (w : Vec F S256x8x768 .f32)
    (h0 : AtFirst i) (hl : ¬ AtLast i) (E : Set ℕ) (K : PUnit → sProp 𝕄) :
    iprop(owns (c : Thread nD τ) arg1 fullShare x ∗ owns (c : Thread nD τ) arg2 fullShare w ∗ (∃ d, owns (c : Thread nD τ) arg9 fullShare d)
        ∗ (iprop(owns (c : Thread nD τ) arg1 fullShare x ∗ owns (c : Thread nD τ) arg2 fullShare w ∗ owns (c : Thread nD τ) arg9 fullShare (accStep x w k1_pay19)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  simp only [k1_part4_eq_skeleton]
  unfold owns
  iintro ⟨⟨%f1, %h1, H1⟩, ⟨%f2, %h2, H2⟩, ⟨%d9, %f9, %h9, H9⟩, Hk⟩
  obtain rfl := harg1.eq_unread h1; obtain rfl := harg2.eq_unread h2
  sl_exec (disch := first | sl_exact h0 | sl_exact hl)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H9
  ipureintro
  refine (View.read_writes_full _ _ _ _ _).trans ?_
  exact congr (congr (congrArg accStep (whole_load harg1 x inb_S4x64x256_S4x64x256_0_0_0))
    (whole_load harg2 w inb_S256x8x768_S256x8x768_0_0_0)) (View.readCov_full _ _ _ _ _)

set_option maxHeartbeats 1000000 in
/-- A grid point neither first nor last: the block is added to the accumulator. -/
theorem gru_middle (c : Dev nD) (i : grid1.Coords) (arg1 : Memref sig .tc .vmem S4x64x256 .bf16) (harg1 : arg1.IsWhole)
    (arg2 : Memref sig .tc .vmem S256x8x768 .f32) (harg2 : arg2.IsWhole) (arg3 : Memref sig .tc .vmem S1x768 .f32) (harg3 : arg3.IsWhole)
    (arg4 : Memref sig .tc .vmem S256x768 .f32) (harg4 : arg4.IsWhole) (arg5 : Memref sig .tc .vmem S1x768 .f32) (harg5 : arg5.IsWhole)
    (arg6 : Memref sig .tc .vmem S256x128 .f32) (harg6 : arg6.IsWhole) (arg7 : Memref sig .tc .vmem S1x128 .f32) (harg7 : arg7.IsWhole)
    (arg8 : Memref sig .tc .vmem S4x128 .f32) (harg8 : arg8.IsWhole) (arg9 : Memref sig .tc .vmem S32x768 .f32) (harg9 : arg9.IsWhole)
    (x : Vec F S4x64x256 .bf16) (w : Vec F S256x8x768 .f32)
    (acc : Vec F S32x768 .f32) (h0 : ¬ AtFirst i) (hl : ¬ AtLast i) (E : Set ℕ) (K : PUnit → sProp 𝕄) :
    iprop(owns (c : Thread nD τ) arg1 fullShare x ∗ owns (c : Thread nD τ) arg2 fullShare w ∗ owns (c : Thread nD τ) arg9 fullShare acc
        ∗ (iprop(owns (c : Thread nD τ) arg1 fullShare x ∗ owns (c : Thread nD τ) arg2 fullShare w ∗ owns (c : Thread nD τ) arg9 fullShare (accStep x w acc)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  simp only [k1_part4_eq_skeleton]
  unfold owns
  iintro ⟨⟨%f1, %h1, H1⟩, ⟨%f2, %h2, H2⟩, ⟨%f9, %h9, H9⟩, Hk⟩
  obtain rfl := harg1.eq_unread h1; obtain rfl := harg2.eq_unread h2; obtain rfl := harg9.eq_unread h9
  sl_exec (disch := first | sl_exact h0 | sl_exact hl)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H9
  ipureintro
  refine (View.read_writes_full _ _ _ _ _).trans ?_
  exact congr (congr (congrArg accStep (whole_load harg1 x inb_S4x64x256_S4x64x256_0_0_0))
    (whole_load harg2 w inb_S256x8x768_S256x8x768_0_0_0)) (whole_load harg9 acc inb_S32x768_S32x768_0_0)

set_option maxHeartbeats 1000000 in
/-- The last grid point: the block is added and the result stored. -/
theorem gru_last (c : Dev nD) (i : grid1.Coords) (arg1 : Memref sig .tc .vmem S4x64x256 .bf16) (harg1 : arg1.IsWhole)
    (arg2 : Memref sig .tc .vmem S256x8x768 .f32) (harg2 : arg2.IsWhole) (arg3 : Memref sig .tc .vmem S1x768 .f32) (harg3 : arg3.IsWhole)
    (arg4 : Memref sig .tc .vmem S256x768 .f32) (harg4 : arg4.IsWhole) (arg5 : Memref sig .tc .vmem S1x768 .f32) (harg5 : arg5.IsWhole)
    (arg6 : Memref sig .tc .vmem S256x128 .f32) (harg6 : arg6.IsWhole) (arg7 : Memref sig .tc .vmem S1x128 .f32) (harg7 : arg7.IsWhole)
    (arg8 : Memref sig .tc .vmem S4x128 .f32) (harg8 : arg8.IsWhole) (arg9 : Memref sig .tc .vmem S32x768 .f32) (harg9 : arg9.IsWhole)
    (x : Vec F S4x64x256 .bf16) (w : Vec F S256x8x768 .f32)
    (bi : Vec F S1x768 .f32) (wh : Vec F S256x768 .f32) (bh : Vec F S1x768 .f32) (wf : Vec F S256x128 .f32) (bf : Vec F S1x128 .f32) (acc : Vec F S32x768 .f32)
    (h0 : ¬ AtFirst i) (hl : AtLast i) (E : Set ℕ) (K : PUnit → sProp 𝕄) :
    iprop(owns (c : Thread nD τ) arg1 fullShare x ∗ owns (c : Thread nD τ) arg2 fullShare w ∗ owns (c : Thread nD τ) arg3 fullShare bi ∗ owns (c : Thread nD τ) arg4 fullShare wh ∗ owns (c : Thread nD τ) arg5 fullShare bh ∗ owns (c : Thread nD τ) arg6 fullShare wf ∗ owns (c : Thread nD τ) arg7 fullShare bf ∗ (∃ d, owns (c : Thread nD τ) arg8 fullShare d) ∗ owns (c : Thread nD τ) arg9 fullShare acc
        ∗ (iprop(owns (c : Thread nD τ) arg1 fullShare x ∗ owns (c : Thread nD τ) arg2 fullShare w ∗ owns (c : Thread nD τ) arg3 fullShare bi ∗ owns (c : Thread nD τ) arg4 fullShare wh ∗ owns (c : Thread nD τ) arg5 fullShare bh ∗ owns (c : Thread nD τ) arg6 fullShare wf ∗ owns (c : Thread nD τ) arg7 fullShare bf ∗ owns (c : Thread nD τ) arg8 fullShare (finish (accStep x w acc) bi wh bh wf bf) ∗ owns (c : Thread nD τ) arg9 fullShare (accStep x w acc)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  simp only [k1_part4_eq_skeleton, k1_part1_eq_skeleton, k1_part2_eq_skeleton, k1_part3_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, %h8, H8⟩, ⟨%f9, %h9, H9⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg9.eq_unread h9
  sl_exec (disch := first | sl_exact h0 | sl_exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (View.read_writes_full _ _ _ _ _).trans ?_
    unfold gru_last.sl.r_15 gru_last.sl.r_16 gru_last.sl.r_17 gru_last.sl.r_18 gru_last.sl.r_19
    unfold gru_last.sl.r_13 gru_last.sl.r_14
    unfold gru_last.sl.r_8 gru_last.sl.r_9 gru_last.sl.r_10 gru_last.sl.r_11 gru_last.sl.r_12 gru_last.sl.r_7 gru_last.sl.r_6 gru_last.sl.r_5
    refine (congr (congrArg (k1_pay2 _ _ _ _ _ _ _ _) (whole_load harg6 wf inb_S256x128_S256x128_0_0))
      (whole_load harg7 bf inb_S1x128_S1x128_0_0)).trans ?_
    have e9 : gru_last.sl.v65 c arg1 harg1 arg2 harg2 arg9 harg9 x w acc = accStep x w acc :=
      (View.readCov_full _ _ _ _ _).trans (congr (congr (congrArg accStep
        (whole_load harg1 x inb_S4x64x256_S4x64x256_0_0_0)) (whole_load harg2 w inb_S256x8x768_S256x8x768_0_0_0))
        (whole_load harg9 acc inb_S32x768_S32x768_0_0))
    rw [e9, whole_load harg3 bi inb_S1x768_S1x768_0_0, whole_load harg4 wh inb_S256x768_S256x768_0_0,
      whole_load harg5 bh inb_S1x768_S1x768_0_0]
    rfl
  iexists _; isplitr
  swap; · iexact H9
  ipureintro
  refine (View.read_writes_full _ _ _ _ _).trans ?_
  exact congr (congr (congrArg accStep (whole_load harg1 x inb_S4x64x256_S4x64x256_0_0_0))
    (whole_load harg2 w inb_S256x8x768_S256x8x768_0_0_0)) (whole_load harg9 acc inb_S32x768_S32x768_0_0)

end Cert.KernelIdeal.Region

end
-- ==== Proof.KernelIdeal.ConvRegion.lean ====
/-
  The graph-convolution call as a region of the program: one grid point per batch element. Whatever the arrays hold when
  the region is entered (`W`), the input blocks stay as found and the output's block at each point is `convBlock` of the
  point's input blocks.
-/
module

public import proofs.«01_k».proof.Proof.KernelIdeal.ConvBody
public import proofs.«01_k».proof.Proof.Gen.KernelIdeal.Regions
public import Idealize.ShloMosaic.Lib.Pipeline.RegionArrays

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (W : Dev nD → Valuation τ sig (Elt F))

/-- Window `w`'s block at grid point `t`, read off its array. -/
def convBlk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The region's proof data: inputs at their blocks, the output at `convBlock`, the scratch buffers at anything. -/
def convDat (c : Dev nD) : Dat τ (Elt F) Unit ℕ (UR sig nD τ) ℕ cfg0 c where
  A w := W c (Pipeline.arrRef spec0 w)
  after w t := match w with
    | ⟨0, _⟩ => convBlk W c 0 t
    | ⟨1, _⟩ => convBlk W c 1 t
    | ⟨2, _⟩ => convBlk W c 2 t
    | ⟨3, _⟩ => convBlk W c 3 t
    | ⟨4, _⟩ => convBlock (convBlk W c 0 t) (convBlk W c 1 t) (convBlk W c 2 t) (convBlk W c 3 t)
  Φ _ := Pipeline.scopedRest spec0 c
  q _ := fullShare
  owed _ := 0

theorem convDat_A (c : Dev nD) (w : Fin cfg0.W) : (convDat W c).A w = W c (Pipeline.arrRef spec0 w) := by dsimp only [convDat]

theorem conv_after0 (c : Dev nD) (t : Fin cfg0.N) : (convDat W c).after 0 t = convBlk W c 0 t := by dsimp only [convDat]
theorem conv_after1 (c : Dev nD) (t : Fin cfg0.N) : (convDat W c).after 1 t = convBlk W c 1 t := by dsimp only [convDat]
theorem conv_after2 (c : Dev nD) (t : Fin cfg0.N) : (convDat W c).after 2 t = convBlk W c 2 t := by dsimp only [convDat]
theorem conv_after3 (c : Dev nD) (t : Fin cfg0.N) : (convDat W c).after 3 t = convBlk W c 3 t := by dsimp only [convDat]
theorem conv_after4 (c : Dev nD) (t : Fin cfg0.N) : (convDat W c).after 4 t
    = convBlock (convBlk W c 0 t) (convBlk W c 1 t) (convBlk W c 2 t) (convBlk W c 3 t) := by dsimp only [convDat]

/-- An input the body keeps is found at its block, at every grid point. -/
theorem conv_before (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((convDat W c).after w t) = (convDat W c).blockOf w t) (t : Fin cfg0.N) (d) :
    (convDat W c).before w t d = (convDat W c).fetched w t d :=
  (convDat W c).before_in_eq_fetched w hw hlive hclip hkeep t d

theorem conv_before0 (c : Dev nD) (t : Fin cfg0.N) (d) : (convDat W c).before 0 t d = convBlk W c 0 t :=
  (conv_before W c 0 rfl (fun _ => rfl) (fun _ _ _ => rfl) (fun t => by rw [conv_after0]; rfl) t d).trans rfl
theorem conv_before1 (c : Dev nD) (t : Fin cfg0.N) (d) : (convDat W c).before 1 t d = convBlk W c 1 t :=
  (conv_before W c 1 rfl (fun _ => rfl) (fun _ _ _ => rfl) (fun t => by rw [conv_after1]; rfl) t d).trans rfl
theorem conv_before2 (c : Dev nD) (t : Fin cfg0.N) (d) : (convDat W c).before 2 t d = convBlk W c 2 t :=
  (conv_before W c 2 rfl (fun _ => rfl) (fun _ _ _ => rfl) (fun t => by rw [conv_after2]; rfl) t d).trans rfl
theorem conv_before3 (c : Dev nD) (t : Fin cfg0.N) (d) : (convDat W c).before 3 t d = convBlk W c 3 t :=
  (conv_before W c 3 rfl (fun _ => rfl) (fun _ _ _ => rfl) (fun t => by rw [conv_after3]; rfl) t d).trans rfl

/-- The body meets its obligation at every grid point. -/
theorem conv_point (c : Dev nD) (t : Fin cfg0.N) :
    (iprop((convDat W c).Φ t.castSucc ∗ (convDat W c).owesAt () t.castSucc
        ∗ (∃ d, owns (c : Thread nD τ) (st0_0 t) fullShare ((convDat W c).before 0 t d))
        ∗ (∃ d, owns (c : Thread nD τ) (st0_1 t) fullShare ((convDat W c).before 1 t d))
        ∗ (∃ d, owns (c : Thread nD τ) (st0_2 t) fullShare ((convDat W c).before 2 t d))
        ∗ (∃ d, owns (c : Thread nD τ) (st0_3 t) fullShare ((convDat W c).before 3 t d))
        ∗ (∃ d, owns (c : Thread nD τ) (st0_4 t) fullShare ((convDat W c).before 4 t d))) : sProp 𝕄)
      ⊢ wp frame (wpE (defs₀ (F := F)) Variants.none c none) Set.univ (bodyAt0 t) (fun _ =>
        iprop((convDat W c).Φ t.succ ∗ (convDat W c).owesAt () t.succ
          ∗ owns (c : Thread nD τ) (st0_0 t) fullShare ((convDat W c).after 0 t)
          ∗ owns (c : Thread nD τ) (st0_1 t) fullShare ((convDat W c).after 1 t)
          ∗ owns (c : Thread nD τ) (st0_2 t) fullShare ((convDat W c).after 2 t)
          ∗ owns (c : Thread nD τ) (st0_3 t) fullShare ((convDat W c).after 3 t)
          ∗ owns (c : Thread nD τ) (st0_4 t) fullShare ((convDat W c).after 4 t))) := by
  unfold bodyAt0
  simp only [conv_before0, conv_before1, conv_before2, conv_before3]
  rw [show (convDat W c).Φ t.succ = Pipeline.scopedRest spec0 c from rfl, show (convDat W c).Φ t.castSucc = Pipeline.scopedRest spec0 c from rfl,
    show (convDat W c).owesAt () t.succ = (convDat W c).owesAt () t.castSucc from rfl,
    conv_after0, conv_after1, conv_after2, conv_after3, conv_after4, scopedRest0_eq]
  simp only [← owns_whole]
  iintro ⟨⟨HS, HR⟩, Ho, ⟨%d0, H0⟩, ⟨%d1, H1⟩, ⟨%d2, H2⟩, ⟨%d3, H3⟩, ⟨%d4, H4⟩⟩
  iapply conv_body c (grid0.coords t) _ _ _ _ _ _ _ _ _ _ _ _ (convBlk W c 0 t) (convBlk W c 1 t) (convBlk W c 2 t) (convBlk W c 3 t) Set.univ _
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  iexact H4

/-- The same in the form the region asks for. -/
theorem conv_obligation (c : Dev nD) : BodyObligation (convDat W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (conv_point W c t) rfl .rfl fun _ => .rfl

end Cert.KernelIdeal.Region

end
-- ==== Proof.KernelIdeal.GruRegion.lean ====
/-
  The recurrent call as a region of the program: eight grid points along the node axis. The accumulator scratch carries
  the running sum from point to point (`accAt`); the output's buffer is stored at the last point only.
-/
module

public import proofs.«01_k».proof.Proof.KernelIdeal.GruBody
public import proofs.«01_k».proof.Proof.KernelIdeal.ConvRegion
public import Idealize.ShloMosaic.Lib.Pipeline.RegionArrays

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (W : Dev nD → Valuation τ sig (Elt F))

/-- Window `w`'s block at grid point `t`, read off its array. -/
def gruBlk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The accumulator after grid point `n`. -/
def accAt (c : Dev nD) : (n : ℕ) → n < cfg1.N → Vec F S32x768 .f32
  | 0, h => accStep (gruBlk W c 0 ⟨0, h⟩) (gruBlk W c 1 ⟨0, h⟩) k1_pay19
  | n + 1, h => accStep (gruBlk W c 0 ⟨n + 1, h⟩) (gruBlk W c 1 ⟨n + 1, h⟩) (accAt c n (Nat.lt_of_succ_lt h))

/-- The accumulator scratch as a whole view. -/
abbrev accM : Memref sig .tc .vmem S32x768 .f32 := Memref.whole cc1_scratch0

/-- The accumulator before grid point `n`: at anything before the first, then at what the point before left. -/
def accHeld (c : Dev nD) : (n : ℕ) → n ≤ cfg1.N → sProp 𝕄
  | 0, _ => iprop(∃ d, owns (c : Thread nD τ) accM fullShare d)
  | n + 1, h => owns (c : Thread nD τ) accM fullShare (accAt W c n h)

/-- A buffer held at some contents. -/
abbrev something (c : Dev nD) (b : Ref sig .tc) : sProp 𝕄 :=
  iprop(∃ f : Buf (Elt F) ((c : Thread nD τ).loc b), ((c : Thread nD τ).loc b) ↦{fullShare} f)

/-- The other call's scoped buffers, which this one never touches. -/
def aside (c : Dev nD) : sProp 𝕄 :=
  iprop(something c cc0_stg0_0 ∗ something c cc0_stg0_1 ∗ something c cc0_stg1_0 ∗ something c cc0_stg2_0 ∗ something c cc0_stg3_0
    ∗ something c cc0_stg4_0 ∗ something c cc0_stg4_1 ∗ something (F := F) c cc0_scratch0)

/-- The region's proof data. -/
def gruDat (c : Dev nD) : Dat τ (Elt F) Unit ℕ (UR sig nD τ) ℕ cfg1 c where
  A w := W c (Pipeline.arrRef spec1 w)
  after w t := match w with
    | ⟨0, _⟩ => gruBlk W c 0 t
    | ⟨1, _⟩ => gruBlk W c 1 t
    | ⟨2, _⟩ => gruBlk W c 2 t
    | ⟨3, _⟩ => gruBlk W c 3 t
    | ⟨4, _⟩ => gruBlk W c 4 t
    | ⟨5, _⟩ => gruBlk W c 5 t
    | ⟨6, _⟩ => gruBlk W c 6 t
    | ⟨7, _⟩ => finish (accAt W c t.val t.isLt) (gruBlk W c 2 t) (gruBlk W c 3 t) (gruBlk W c 4 t) (gruBlk W c 5 t) (gruBlk W c 6 t)
  Φ t := iprop(aside (F := F) c ∗ accHeld W c t.val (Nat.le_of_lt_succ t.isLt))
  q _ := fullShare
  owed _ := 0

theorem gruDat_A (c : Dev nD) (w : Fin cfg1.W) : (gruDat W c).A w = W c (Pipeline.arrRef spec1 w) := by dsimp only [gruDat]

theorem gru_after0 (c : Dev nD) (t : Fin cfg1.N) : (gruDat W c).after 0 t = gruBlk W c 0 t := by dsimp only [gruDat]
theorem gru_after1 (c : Dev nD) (t : Fin cfg1.N) : (gruDat W c).after 1 t = gruBlk W c 1 t := by dsimp only [gruDat]
theorem gru_after2 (c : Dev nD) (t : Fin cfg1.N) : (gruDat W c).after 2 t = gruBlk W c 2 t := by dsimp only [gruDat]
theorem gru_after3 (c : Dev nD) (t : Fin cfg1.N) : (gruDat W c).after 3 t = gruBlk W c 3 t := by dsimp only [gruDat]
theorem gru_after4 (c : Dev nD) (t : Fin cfg1.N) : (gruDat W c).after 4 t = gruBlk W c 4 t := by dsimp only [gruDat]
theorem gru_after5 (c : Dev nD) (t : Fin cfg1.N) : (gruDat W c).after 5 t = gruBlk W c 5 t := by dsimp only [gruDat]
theorem gru_after6 (c : Dev nD) (t : Fin cfg1.N) : (gruDat W c).after 6 t = gruBlk W c 6 t := by dsimp only [gruDat]
theorem gru_after7 (c : Dev nD) (t : Fin cfg1.N) : (gruDat W c).after 7 t
    = finish (accAt W c t.val t.isLt) (gruBlk W c 2 t) (gruBlk W c 3 t) (gruBlk W c 4 t) (gruBlk W c 5 t) (gruBlk W c 6 t) := by
  dsimp only [gruDat]

/-- An input the body keeps is found at its block, at every grid point. -/
theorem gru_before (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((gruDat W c).after w t) = (gruDat W c).blockOf w t) (t : Fin cfg1.N) (d) :
    (gruDat W c).before w t d = (gruDat W c).fetched w t d :=
  (gruDat W c).before_in_eq_fetched w hw hlive hclip hkeep t d

theorem gru_before0 (c : Dev nD) (t : Fin cfg1.N) (d) : (gruDat W c).before 0 t d = gruBlk W c 0 t :=
  (gru_before W c 0 rfl (fun _ => rfl) (fun _ _ _ => rfl) (fun t => by rw [gru_after0]; rfl) t d).trans rfl
theorem gru_before1 (c : Dev nD) (t : Fin cfg1.N) (d) : (gruDat W c).before 1 t d = gruBlk W c 1 t :=
  (gru_before W c 1 rfl (fun _ => rfl) (fun _ _ _ => rfl) (fun t => by rw [gru_after1]; rfl) t d).trans rfl
theorem gru_before2 (c : Dev nD) (t : Fin cfg1.N) (d) : (gruDat W c).before 2 t d = gruBlk W c 2 t :=
  (gru_before W c 2 rfl (fun _ => rfl) (fun _ _ _ => rfl) (fun t => by rw [gru_after2]; rfl) t d).trans rfl
theorem gru_before3 (c : Dev nD) (t : Fin cfg1.N) (d) : (gruDat W c).before 3 t d = gruBlk W c 3 t :=
  (gru_before W c 3 rfl (fun _ => rfl) (fun _ _ _ => rfl) (fun t => by rw [gru_after3]; rfl) t d).trans rfl
theorem gru_before4 (c : Dev nD) (t : Fin cfg1.N) (d) : (gruDat W c).before 4 t d = gruBlk W c 4 t :=
  (gru_before W c 4 rfl (fun _ => rfl) (fun _ _ _ => rfl) (fun t => by rw [gru_after4]; rfl) t d).trans rfl
theorem gru_before5 (c : Dev nD) (t : Fin cfg1.N) (d) : (gruDat W c).before 5 t d = gruBlk W c 5 t :=
  (gru_before W c 5 rfl (fun _ => rfl) (fun _ _ _ => rfl) (fun t => by rw [gru_after5]; rfl) t d).trans rfl
theorem gru_before6 (c : Dev nD) (t : Fin cfg1.N) (d) : (gruDat W c).before 6 t d = gruBlk W c 6 t :=
  (gru_before W c 6 rfl (fun _ => rfl) (fun _ _ _ => rfl) (fun t => by rw [gru_after6]; rfl) t d).trans rfl

/-- The first grid point is point 0. -/
theorem atFirst_iff (t : Fin cfg1.N) : AtFirst (grid1.coords t) ↔ t.val = 0 := by
  have ht : t.val < 8 := Nat.lt_of_lt_of_eq t.isLt N_1
  have e : (grid1.coords t 0).val = t.val / 1 % 8 := Pipeline.Grid.coords_val t 0 (by decide) rfl
  have : AtFirst (grid1.coords t) ↔ t.val % 8 = 0 := by
    simp only [AtFirst, e]
    word_cmp
  exact this.trans ⟨fun h => by omega, fun h => by omega⟩

/-- The last grid point is point 7. -/
theorem atLast_iff (t : Fin cfg1.N) : AtLast (grid1.coords t) ↔ t.val = 7 := by
  have ht : t.val < 8 := Nat.lt_of_lt_of_eq t.isLt N_1
  have e : (grid1.coords t 0).val = t.val / 1 % 8 := Pipeline.Grid.coords_val t 0 (by decide) rfl
  have : AtLast (grid1.coords t) ↔ t.val % 8 = 7 := by
    simp only [AtLast, k1_cond2, e]
    word_cmp
  exact this.trans ⟨fun h => by omega, fun h => by omega⟩

/-- Off the last point the output's buffer is left alone and not written back. -/
theorem gru_idle : ∀ t : Fin cfg1.N, ¬ AtLast (grid1.coords t) → cfg1.idle 7 (grid1.coords t) = true := by decide +kernel
theorem gru_noFlush : ∀ t : Fin cfg1.N, ¬ AtLast (grid1.coords t) → (cfg1.win 7).flush t = false := by decide +kernel
theorem gru_live : ∀ t : Fin cfg1.N, AtLast (grid1.coords t) → cfg1.idle 7 (grid1.coords t) = false := by decide +kernel

set_option maxHeartbeats 1000000 in
/-- The body meets its obligation at every grid point. -/
theorem gru_point (c : Dev nD) (t : Fin cfg1.N) :
    (iprop((gruDat W c).Φ t.castSucc ∗ (gruDat W c).owesAt () t.castSucc
        ∗ (∃ d, owns (c : Thread nD τ) (st1_0 t) fullShare ((gruDat W c).before 0 t d))
        ∗ (∃ d, owns (c : Thread nD τ) (st1_1 t) fullShare ((gruDat W c).before 1 t d))
        ∗ (∃ d, owns (c : Thread nD τ) (st1_2 t) fullShare ((gruDat W c).before 2 t d))
        ∗ (∃ d, owns (c : Thread nD τ) (st1_3 t) fullShare ((gruDat W c).before 3 t d))
        ∗ (∃ d, owns (c : Thread nD τ) (st1_4 t) fullShare ((gruDat W c).before 4 t d))
        ∗ (∃ d, owns (c : Thread nD τ) (st1_5 t) fullShare ((gruDat W c).before 5 t d))
        ∗ (∃ d, owns (c : Thread nD τ) (st1_6 t) fullShare ((gruDat W c).before 6 t d))
        ∗ (∃ d, owns (c : Thread nD τ) (st1_7 t) fullShare ((gruDat W c).before 7 t d))) : sProp 𝕄)
      ⊢ wp frame (wpE (defs₀ (F := F)) Variants.none c none) Set.univ (bodyAt1 t) (fun _ =>
        iprop((gruDat W c).Φ t.succ ∗ (gruDat W c).owesAt () t.succ
          ∗ owns (c : Thread nD τ) (st1_0 t) fullShare ((gruDat W c).after 0 t)
          ∗ owns (c : Thread nD τ) (st1_1 t) fullShare ((gruDat W c).after 1 t)
          ∗ owns (c : Thread nD τ) (st1_2 t) fullShare ((gruDat W c).after 2 t)
          ∗ owns (c : Thread nD τ) (st1_3 t) fullShare ((gruDat W c).after 3 t)
          ∗ owns (c : Thread nD τ) (st1_4 t) fullShare ((gruDat W c).after 4 t)
          ∗ owns (c : Thread nD τ) (st1_5 t) fullShare ((gruDat W c).after 5 t)
          ∗ owns (c : Thread nD τ) (st1_6 t) fullShare ((gruDat W c).after 6 t)
          ∗ (gruDat W c).leavesExact 7 t)) := by
  unfold bodyAt1
  simp only [gru_before0, gru_before1, gru_before2, gru_before3, gru_before4, gru_before5, gru_before6]
  rw [show (gruDat W c).Φ t.succ = iprop(aside (F := F) c ∗ owns (c : Thread nD τ) accM fullShare (accAt W c t.val t.isLt)) from rfl,
    show (gruDat W c).Φ t.castSucc = iprop(aside (F := F) c ∗ accHeld W c t.val (Nat.le_of_lt t.isLt)) from rfl,
    show (gruDat W c).owesAt () t.succ = (gruDat W c).owesAt () t.castSucc from rfl,
    gru_after0, gru_after1, gru_after2, gru_after3, gru_after4, gru_after5, gru_after6]
  by_cases hl : AtLast (grid1.coords t)
  · have h7 := (atLast_iff t).mp hl
    have h0 : ¬ AtFirst (grid1.coords t) := fun h => by have := (atFirst_iff t).mp h; omega
    rw [show (gruDat W c).leavesExact 7 t = owns (c : Thread nD τ) (st1_7 t) fullShare ((gruDat W c).after 7 t) from by
      unfold Dat.leavesExact; rw [gru_live t hl], gru_after7]
    obtain ⟨n, hn⟩ := t
    obtain ⟨k, rfl⟩ : ∃ k, n = k + 1 := ⟨6, h7⟩
    rw [show accHeld W c (k + 1) (Nat.le_of_lt hn) = owns (c : Thread nD τ) accM fullShare (accAt W c k (Nat.lt_of_succ_lt hn)) from rfl,
      show accAt W c (k + 1) hn = accStep (gruBlk W c 0 ⟨k + 1, hn⟩) (gruBlk W c 1 ⟨k + 1, hn⟩) (accAt W c k (Nat.lt_of_succ_lt hn)) from rfl]
    iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply gru_last c (grid1.coords ⟨k + 1, hn⟩) _ _ _ _ _ _ _ _ _ _ _ _ _ _ _ _ _ _ (gruBlk W c 0 _) (gruBlk W c 1 _) (gruBlk W c 2 _) (gruBlk W c 3 _)
      (gruBlk W c 4 _) (gruBlk W c 5 _) (gruBlk W c 6 _) (accAt W c k (Nat.lt_of_succ_lt hn)) h0 hl Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR]
    · isplitl [HR]; · iexact HR
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (gruDat W c) 7 t (gru_idle t hl) (gru_noFlush t hl)]
    obtain ⟨n, hn⟩ := t
    cases n with
    | zero =>
      have h0 : AtFirst (grid1.coords ⟨0, hn⟩) := (atFirst_iff ⟨0, hn⟩).mpr rfl
      rw [show accHeld W c (0 : ℕ) (Nat.le_of_lt hn) = iprop(∃ d, owns (c : Thread nD τ) accM fullShare d) from rfl,
        show accAt W c 0 hn = accStep (gruBlk W c 0 ⟨0, hn⟩) (gruBlk W c 1 ⟨0, hn⟩) k1_pay19 from rfl]
      iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply gru_first c (grid1.coords ⟨0, hn⟩) _ _ _ _ _ _ _ _ _ _ _ _ _ _ _ _ _ _ (gruBlk W c 0 _) (gruBlk W c 1 _) h0 hl Set.univ _
      isplitl [H0]; · iexact H0
      isplitl [H1]; · iexact H1
      isplitl [HS]; · iexact HS
      iintro ⟨H0, H1, HS⟩
      isplitl [HS HR]
      · isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    | succ k =>
      have h0 : ¬ AtFirst (grid1.coords ⟨k + 1, hn⟩) := fun h => absurd ((atFirst_iff ⟨k + 1, hn⟩).mp h) (Nat.succ_ne_zero k)
      rw [show accHeld W c (k + 1) (Nat.le_of_lt hn) = owns (c : Thread nD τ) accM fullShare (accAt W c k (Nat.lt_of_succ_lt hn)) from rfl,
        show accAt W c (k + 1) hn = accStep (gruBlk W c 0 ⟨k + 1, hn⟩) (gruBlk W c 1 ⟨k + 1, hn⟩) (accAt W c k (Nat.lt_of_succ_lt hn)) from rfl]
      iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply gru_middle c (grid1.coords ⟨k + 1, hn⟩) _ _ _ _ _ _ _ _ _ _ _ _ _ _ _ _ _ _ (gruBlk W c 0 _) (gruBlk W c 1 _) (accAt W c k (Nat.lt_of_succ_lt hn)) h0 hl Set.univ _
      isplitl [H0]; · iexact H0
      isplitl [H1]; · iexact H1
      isplitl [HS]; · iexact HS
      iintro ⟨H0, H1, HS⟩
      isplitl [HS HR]
      · isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The same in the form the region asks for. -/
theorem gru_obligation (c : Dev nD) : BodyObligation (gruDat W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (gru_point W c t) rfl .rfl fun _ => .rfl

/-- The scoped buffers the region finds make its invariant before the first point, -/
theorem gru_in (c : Dev nD) : (Pipeline.scopedRest spec1 c : sProp 𝕄) ⊢ (gruDat W c).Φ 0 := by
  rw [show (gruDat W c).Φ 0 = iprop(aside (F := F) c ∗ ∃ d, owns (c : Thread nD τ) accM fullShare d) from rfl, scopedRest1_eq]
  unfold aside
  simp only [accM, owns_whole]
  iintro ⟨R1, R2, R3, R4, R5, R6, R7, R8, HS⟩
  isplitr [HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  · iexact HS

/-- and are given back by it after the last. -/
theorem gru_out (c : Dev nD) : (gruDat W c).Φ (Fin.last cfg1.N) ⊢ (Pipeline.scopedRest spec1 c : sProp 𝕄) := by
  rw [show (gruDat W c).Φ (Fin.last cfg1.N) = iprop(aside (F := F) c ∗ accHeld W c cfg1.N le_rfl) from rfl, scopedRest1_eq]
  have e : ∀ (n : ℕ) (h : n ≤ cfg1.N), accHeld W c n h ⊢ iprop(∃ d, owns (c : Thread nD τ) accM fullShare d) := fun n h => by
    cases n with
    | zero => exact .rfl
    | succ n => unfold accHeld; iintro H; iexists _; iexact H
  refine (sep_mono .rfl (e _ _)).trans ?_
  unfold aside
  simp only [accM, owns_whole]
  iintro ⟨⟨R1, R2, R3, R4, R5, R6, R7, R8⟩, HS⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HS

end Cert.KernelIdeal.Region

end
-- ==== Proof.KernelIdeal.Run.lean ====
/-
  The whole program's run: from any memory with zero counters every execution ends, with every counter at zero and every
  buffer outside the calls' staging at the last valuation `V12`, in which the two results are what the regions left.
-/
module

public import proofs.«01_k».proof.Proof.KernelIdeal.GruRegion
public import Idealize.ShloMosaic.Lib.Pipeline.RegionArraysS

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg LevelCut)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents the first region leaves, as if the second had not run. -/
def outs₁ : Outs (F := F) := fun _ r c => Pipeline.afterRegion (convDat (V9 m) c) (V9 m c) (Proc.devRef .tc r)

/-- The contents the regions leave: `main_v42` from the first, `main_v47` from the second. -/
def outs : Outs (F := F) := fun n r c =>
  if n = 12 then Pipeline.afterRegion (gruDat (V11 m (outs₁ m)) c) (V11 m (outs₁ m) c) (Proc.devRef .tc r) else outs₁ m n r c

theorem V10_outs (c : Dev nD) : V10 m (outs m) c = V10 m (outs₁ m) c := rfl

theorem V11_outs : V11 m (outs m) = V11 m (outs₁ m) := rfl

/-- The two regions' proof data. -/
def pdats : (p : Fin 2) → (c : Dev nD) → Dat τ (Elt F) Unit ℕ (UR sig nD τ) ℕ (cfgs p) c
  | ⟨0, _⟩, c => convDat (V9 m) c
  | ⟨1, _⟩, c => gruDat (V11 m (outs₁ m)) c

/-- The staging waits' one level. -/
def waits (g : GSem nD τ sig) : Finset Unit := if g.1.2 = .tc then {()} else ∅

theorem levelCut (p : Fin 2) : LevelCut (pcfgs (F := F)) adm () waits (fun _ _ => (0 : ℕ)) p (fun _ => 0) (fun _ => 0) where
  hι c w s := by unfold waits; rw [if_pos rfl]; exact Finset.mem_singleton_self _
  hιb _ _ _ := le_rfl
  hD c g i h := absurd h (lt_irrefl _)

/-- Each call's one output is its result. -/
theorem conv_output : ∀ w : Fin cfg0.W, (cfg0.win w).isOut = true → Pipeline.arrRef cfg0.spec w = main_v42 := by decide
theorem gru_output : ∀ w : Fin cfg1.W, (cfg1.win w).isOut = true → Pipeline.arrRef cfg1.spec w = main_v47 := by decide

/-- A region leaves every buffer but its output's array as it found it. -/
theorem conv_after (c : Dev nD) (b : DevRef τ sig) (hb : b ∈ Pipeline.ucRefs τ sig) :
    Pipeline.afterRegion (convDat (V9 m) c) (V9 m c) b = V10 m (outs m) c b := by
  obtain ⟨r, -, rfl⟩ : ∃ r : Ref sig .tc, True ∧ Proc.devRef .tc r = b := by
    have := (Finset.mem_filter.mp hb).1
    unfold StableHlo.tcRefs at this
    obtain ⟨r, -, e⟩ := Finset.mem_map.mp this
    exact ⟨r, trivial, e⟩
  by_cases hr : r = main_v42
  · subst hr
    exact (Function.update_self (Proc.devRef .tc main_v42 : DevRef τ sig) (outs m 10 main_v42 c) (V9 m c)).symm
  · rw [show V10 m (outs m) c (Proc.devRef .tc r) = V9 m c r from V10_of m (outs m) c r (by simpa using hr)]
    exact Pipeline.afterRegion_keeps (convDat (V9 m) c) (V9 m c) launch0.win.arr_inj (convDat_A (V9 m) c) r (fun w e => by
      by_contra ho
      exact hr (e.symm.trans (conv_output w (by simpa using ho))))

theorem gru_after (c : Dev nD) (b : DevRef τ sig) (hb : b ∈ Pipeline.ucRefs τ sig) :
    Pipeline.afterRegion (gruDat (V11 m (outs₁ m)) c) (V11 m (outs₁ m) c) b = V12 m (outs m) c b := by
  obtain ⟨r, -, rfl⟩ : ∃ r : Ref sig .tc, True ∧ Proc.devRef .tc r = b := by
    have := (Finset.mem_filter.mp hb).1
    unfold StableHlo.tcRefs at this
    obtain ⟨r, -, e⟩ := Finset.mem_map.mp this
    exact ⟨r, trivial, e⟩
  by_cases hr : r = main_v47
  · subst hr
    exact (Function.update_self (Proc.devRef .tc main_v47 : DevRef τ sig) (outs m 12 main_v47 c) (V11 m (outs m) c)).symm
  · rw [show V12 m (outs m) c (Proc.devRef .tc r) = V11 m (outs m) c r from V12_of m (outs m) c r (by simpa using hr)]
    exact Pipeline.afterRegion_keeps (gruDat (V11 m (outs₁ m)) c) (V11 m (outs₁ m) c) launch1.win.arr_inj (gruDat_A (V11 m (outs₁ m)) c) r (fun w e => by
      by_contra ho
      exact hr (e.symm.trans (gru_output w (by simpa using ho))))

/-- The first region, between the whole memory before it and after it. -/
def seg0 : RegionSeg (pcfgs (F := F)) adm (pdats m) () (defs₀ (F := F)) Variants.none waits (fun _ _ => (0 : ℕ)) 0 :=
  RegionSeg.ofHeldIn (pcfgs (F := F)) adm (pdats m) () (defs₀ (F := F)) Variants.none waits (fun _ _ => (0 : ℕ)) 0 (fun _ => 0) (Pipeline.ucRefs τ sig)
    (fun _ => BI.emp) (fun _ => BI.emp) launch0.toP rfl (fun c => (conv_obligation (V9 m) c).loose) (fun _ _ => rfl) (fun _ => rfl)
    (fun c => (pdats m 0 c).share_full fun _ => rfl)
    (fun c => (show _ ⊢ (Pipeline.scopedRest spec0 c : sProp 𝕄) by iintro ⟨H, -⟩; iexact H))
    (fun c => (show (Pipeline.scopedRest spec0 c : sProp 𝕄) ⊢ _ by
      iintro H
      isplitl [H]; · iexact H
      iempintro)) (fun _ => 0) (levelCut 0) (fun _ => BI.emp) (V9 m) (fun c w => convDat_A (V9 m) c w)

/-- The second region. -/
def seg1 : RegionSeg (pcfgs (F := F)) adm (pdats m) () (defs₀ (F := F)) Variants.none waits (fun _ _ => (0 : ℕ)) 1 :=
  RegionSeg.ofHeldIn (pcfgs (F := F)) adm (pdats m) () (defs₀ (F := F)) Variants.none waits (fun _ _ => (0 : ℕ)) 1 (fun _ => 0) (Pipeline.ucRefs τ sig)
    (fun _ => BI.emp) (fun _ => BI.emp) launch1.toP rfl (fun c => (gru_obligation (V11 m (outs₁ m)) c).loose) (fun _ _ => rfl) (fun _ => rfl)
    (fun c => (pdats m 1 c).share_full fun _ => rfl)
    (fun c => (show _ ⊢ (Pipeline.scopedRest spec1 c : sProp 𝕄) by iintro ⟨H, -⟩; iexact H).trans (gru_in (V11 m (outs₁ m)) c))
    (fun c => (gru_out (V11 m (outs₁ m)) c).trans (show (Pipeline.scopedRest spec1 c : sProp 𝕄) ⊢ _ by
      iintro H
      isplitl [H]; · iexact H
      iempintro)) (fun _ => 0) (levelCut 1) (fun _ => BI.emp) (V11 m (outs₁ m)) (fun c w => gruDat_A (V11 m (outs₁ m)) c w)

/-- What a core holds beside its buffers between the program's parts: that it owes nothing. -/
abbrev idleCore (c : Dev nD) : sProp 𝕄 :=
  iprop((∃ Wd, owes (c : Thread nD τ) (0 : CellTallies nD τ sig Unit) Wd) ∗ (BI.emp : sProp 𝕄) ∗ (BI.emp : sProp 𝕄))

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

/-- Each region is entered from the memory before it and left at the memory after it. -/
theorem enter0 (c : Dev nD) : (iprop(StableHlo.held (c : Thread nD τ) (Pipeline.ucRefs τ sig) (V9 m c) ∗ idleCore c) : sProp 𝕄) ⊢ (seg0 m).pre c :=
  by unfold seg0; exact RegionSeg.ofHeldIn_pre (W := V9 m) (R := fun _ => BI.emp) (X := fun _ => BI.emp) (D := fun _ => 0) (sub0 (F := F)) c

theorem leave0 (c : Dev nD) : (seg0 m).post c ⊢ (iprop(StableHlo.held (c : Thread nD τ) (Pipeline.ucRefs τ sig) (V10 m (outs m) c) ∗ idleCore c) : sProp 𝕄) :=
  (RegionSeg.ofHeldIn_post (sub0 (F := F)) c).trans (sep_mono (Entails.of_eq (StableHlo.held_congr (c.tc : Thread nD τ) (conv_after m c))) .rfl)

theorem enter1 (c : Dev nD) : (iprop(StableHlo.held (c : Thread nD τ) (Pipeline.ucRefs τ sig) (V11 m (outs m) c) ∗ idleCore c) : sProp 𝕄) ⊢ (seg1 m).pre c :=
  by unfold seg1; exact RegionSeg.ofHeldIn_pre (W := V11 m (outs₁ m)) (R := fun _ => BI.emp) (X := fun _ => BI.emp) (D := fun _ => 0) (sub1 (F := F)) c

theorem leave1 (c : Dev nD) : (seg1 m).post c ⊢ (iprop(StableHlo.held (c : Thread nD τ) (Pipeline.ucRefs τ sig) (V12 m (outs m) c)
    ∗ ∃ Wd, owes (c : Thread nD τ) (0 : CellTallies nD τ sig Unit) Wd) : sProp 𝕄) :=
  (RegionSeg.ofHeldIn_post (sub1 (F := F)) c).trans (sep_mono (Entails.of_eq (StableHlo.held_congr (c.tc : Thread nD τ) (gru_after m c))) (by
    iintro ⟨HO, -, -⟩
    iexact HO))

set_option maxHeartbeats 1000000 in
set_option backward.isDefEq.respectTransparency.types false in
/-- The program's run, at any float values. -/
theorem run : θ_run defs (onTc (τ := τ) (main (F := F))) ⟨m, fun _ => 0, ρ⟩ (fun r =>
    (∀ (c : Dev nD) (b : DevRef τ sig), b ∈ Pipeline.ucRefs τ sig → r.2.mem (c, b) = V12 m (outs m) c b) ∧ r.2.sem = fun _ => 0) := by
  refine Pipeline.θ_run_regions_kit_dev_sems (pcfgs (F := F)) adm (pdats m) () cellOf_inj emb₁ defs₀ Variants.none waits (fun _ _ => (0 : ℕ)) m ρ main
    (segs m (outs m) Variants.none waits (fun _ _ => (0 : ℕ)) (fun _ => idleCore) () (pdats m) (seg0 m) (seg1 m))
    (fun c Q => by
      rewrite [main_chain c, Pipeline.Seg.run_eq_chain,
        show (segs m (outs m) Variants.none waits (fun _ _ => (0 : ℕ)) (fun _ => idleCore) () (pdats m) (seg0 m) (seg1 m) c).map Pipeline.Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()), StableHlo.seq hostOps1, Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ idleCore c))
    (Tₙ := fun c => StableHlo.held (c : Thread nD τ) (Pipeline.ucRefs τ sig) (V12 m (outs m) c))
    (hch := fun c => ⟨.rfl, .rfl, .rfl, .rfl, .rfl, .rfl, .rfl, .rfl, .rfl, enter0 m c, leave0 m c, enter1 m c, leave1 m c⟩)
    (hinit := ?_) (QY := fun c s => ∀ b ∈ Pipeline.ucRefs τ sig, s.mem (c, b) = V12 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach waits (fun _ _ => (0 : ℕ)) fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro; exact h
    · iexact HSI

end Cert.KernelIdeal.Region

end
-- ==== Proof.KernelIdeal.Final.lean ====
/-
  What the program leaves in the memory the outside can see: its nine arguments as they were, and in the
  result array what the second kernel's launch stores there. Both are read off the run.
-/
module

public import proofs.«01_k».proof.Proof.KernelIdeal.Run

@[expose] public section

noncomputable section

open Idealize.ShloMosaic Idealize.ShloMosaic.TcCoe Idealize.SL.Sem

namespace Cert.KernelIdeal.Region

open Cert.KernelIdeal Cert.KernelIdeal.Gen

variable {F : FTy → Type} [FloatOps F] [Named F]
variable (m : (ℓ : Loc nD τ sig) → Buf (Elt F) ℓ) (ρ : Dev nD → PrngReg)

/-- An array of the outer program is among those the run accounts for. -/
theorem counted (r : Ref sig .tc) (h : (Proc.devRef .tc r : DevRef τ sig).isScoped = false) :
    (Proc.devRef .tc r : DevRef τ sig) ∈ Pipeline.ucRefs τ sig :=
  Finset.mem_filter.mpr ⟨StableHlo.devRef_mem_tcRefs r, by rw [h]; decide⟩

/-- The result array at the end, the nine arguments, and every counter at zero. -/
theorem final : θ_run defs (onTc (τ := τ) (main (F := F))) ⟨m, fun _ => 0, ρ⟩ (fun r => (∀ c : Dev nD,
    r.2.mem ((c.tc : Thread nD τ).loc main_v47) = V12 m (outs m) c main_v47
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  (θ_run defs _ _).mono (fun _ h => ⟨fun c => ⟨h.1 c _ (counted main_v47 rfl),
    (h.1 c _ (counted main_arg0 rfl)).trans (V12_main_arg0 m (outs m) c),
    (h.1 c _ (counted main_arg1 rfl)).trans (V12_main_arg1 m (outs m) c),
    (h.1 c _ (counted main_arg2 rfl)).trans (V12_main_arg2 m (outs m) c),
    (h.1 c _ (counted main_arg3 rfl)).trans (V12_main_arg3 m (outs m) c),
    (h.1 c _ (counted main_arg4 rfl)).trans (V12_main_arg4 m (outs m) c),
    (h.1 c _ (counted main_arg5 rfl)).trans (V12_main_arg5 m (outs m) c),
    (h.1 c _ (counted main_arg6 rfl)).trans (V12_main_arg6 m (outs m) c),
    (h.1 c _ (counted main_arg7 rfl)).trans (V12_main_arg7 m (outs m) c),
    (h.1 c _ (counted main_arg8 rfl)).trans (V12_main_arg8 m (outs m) c)⟩, h.2⟩) (run m ρ)

end Cert.KernelIdeal.Region

end
-- ==== Proof.Frames.lean ====
/-
  The three frames (the program, its idealization, the idealized reference: each runs to its end, leaves its
  arguments alone and every counter at zero) and the one replaced constant.
-/
module

public import proofs.«01_k».proof.Defs
public import proofs.«01_k».proof.Proof.Kernel.Final
public import proofs.«01_k».proof.Proof.KernelIdeal.Final
public import proofs.«01_k».proof.Proof.Gen.ReferenceIdeal.Run

@[expose] public section

noncomputable section

open Idealize.ShloMosaic Idealize.ShloMosaic.TcCoe Idealize.SL.Sem

namespace Cert.Frames

theorem kernel : Cert.quiescent_Kernel := fun m ρ _ =>
  (θ_run Cert.Kernel.defs _ _).mono (fun _ h => ⟨fun c => (h.1 c).2, h.2⟩) (Cert.Kernel.Region.final (F := Bits) m ρ)

theorem kernelIdeal : Cert.quiescent_KernelIdeal := fun m ρ _ =>
  (θ_run Cert.KernelIdeal.defs _ _).mono (fun _ h => ⟨fun c => (h.1 c).2, h.2⟩)
    (Cert.KernelIdeal.Region.final (F := Ideal) m ρ)

theorem referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The literal the kernel spells for the root of two is the named real `√2`. -/
theorem root_two : Cert.preserves_Kernel_KernelIdeal :=
  IdealRules.named_const.statement Cert.KernelIdeal.κ "sqrt2" .f32 0x3FB504F3#32 ((Real.sqrt 2 : ℝ) : EReal) rfl

end Cert.Frames

end
-- ==== Proof.Precondition.lean ====
/-
  The precondition read: the middle time step's features are real numbers.
-/
module

public import proofs.«01_k».proof.Defs
public import Idealize.ShloMosaic.Lib.Pointwise
public import Idealize.ShloMosaic.Lib.ReduceAll
public import Idealize.ShloMosaic.Lib.KernelVsHost

@[expose] public section

set_option maxRecDepth 16384

noncomputable section

namespace Cert.Pre_mid_finite

open Idealize.ShloMosaic Idealize.ShloMosaic.TcCoe

/-- The side conditions the predicate's operations state. -/
instance holds : Facts where
  slices_S4x8x2048x8_S4x1x2048x8_0_4_0_0 := by decide
  shapeCasts_S4x1x2048x8_S4x2048x8 := by decide
  bcast_S_S4x2048x8 := by decide
  reducesTo_S4x2048x8_S_d0_1_2 := by decide
  h_S_ := by decide

/-- A value whose magnitude is below plus infinity is a real number. -/
theorem real_of_below (x : EReal) (h : FloatOps.cmpf (F := Ideal) (φ := .f32) .olt (FloatOps.hostAbsf (F := Ideal) (φ := .f32) x)
    (FloatOps.ofBits (F := Ideal) .f32 0x7F800000#32) = 1#1) : ∃ a : ℝ, x = (a : EReal) := by
  rw [← Ideal.xori_weird_eq_hostAbsf_olt_inf] at h
  by_cases hx : x = ⊤ ∨ x = ⊥
  · exfalso
    revert h
    show IntOp.xori (BitVec.ofBool (decide (x = ⊤ ∨ x = ⊥))) 1#1 = 1#1 → False
    rw [decide_eq_true hx]
    decide
  · push Not at hx
    exact ⟨x.toReal, (EReal.coe_toReal hx.1 hx.2).symm⟩

/-- What the predicate says of the features. -/
theorem real_of_holds (x : FVec Ideal S4x8x2048x8 .f32) (w : FVec Ideal S2x8x8 .f32) (v : FVec Ideal S8 .f32)
    (wi : FVec Ideal S16384x768 .f32) (wh : FVec Ideal S256x768 .f32) (bi bh : FVec Ideal S768 .f32) (wf : FVec Ideal S256x128 .f32)
    (bf : FVec Ideal S128 .f32) (h : fn x w v wi wh bi bh wf bf = fun _ => 1#1) (b : Fin 4) (n : Fin 2048) (f : Fin 8) :
    ∃ a : ℝ, x (ix4 b 4 n f) = (a : EReal) := by
  have e := congrFun h (Shape.Idx.first Facts.h_S_)
  dsimp only [fn] at e
  have e' := Host.reduce_andi_all _ _ _ _ _ e (ix3 b n f)
  refine real_of_below _ (Eq.trans ?_ e')
  pointwise []

end Cert.Pre_mid_finite

end
-- ==== Proof.Spec.lean ====
/-
  The mathematics of the problem on plain functions of coordinates, over the extended reals: a Gaussian adjacency over
  the middle time step, its symmetric normalisation, one graph convolution with a rectifier, and a gated recurrence over
  the eight time steps with a linear head.
-/
module

public import Idealize.ShloMosaic.Lib.Pointwise
public import Idealize.ShloMosaic.PureOps.Ideal

@[expose] public section

noncomputable section

namespace Cert.Spec

open Idealize.ShloMosaic

/-- The two halves of a number below 64: its quotient and its remainder by eight. -/
theorem quot_lt (r : Fin 64) : r.val / 8 < 8 := by omega
theorem rem_lt (r : Fin 64) : r.val % 8 < 8 := by omega

/-- The row of the input weights that belongs to a node and a feature. -/
theorem row_lt (n : Fin 2048) (o : Fin 8) : n.val * 8 + o.val < 16384 := by omega

/-- The node features of one batch element: node, time step, feature. -/
abbrev Nodes := Fin 2048 → Fin 8 → Fin 8 → EReal

/-- The small number added to a degree. -/
def tiny : EReal := Ideal.ofBits .f32 897988541#32

variable (x : Nodes)

/-- The squared length of node `n` at the middle time step. -/
def sq (n : Fin 2048) : EReal := ∑ f, x n 4 f * x n 4 f

/-- The squared distance of two nodes at the middle time step, never below zero. -/
def dist (n m : Fin 2048) : EReal := max (sq x n + sq x m - Ideal.ofBits .f32 1073741824#32 * ∑ f, x n 4 f * x m 4 f) 0

/-- The Gaussian adjacency. -/
def adj (n m : Fin 2048) : EReal := Ideal.exp (Ideal.div (-dist x n m) 1)

/-- One over the square root of a node's degree. -/
def scale (n : Fin 2048) : EReal := Ideal.div 1 (Ideal.sqrt (∑ m, adj x n m + tiny))

/-- A node's features smoothed by the normalised adjacency. -/
def smooth (n : Fin 2048) (t f : Fin 8) : EReal := ∑ m, x m t f * (scale x n * adj x n m * scale x m)

/-- The convolution's output at a node, a time step and an output feature. -/
def conv (w0 w1 : Fin 8 → Fin 8 → EReal) (b : Fin 8 → EReal) (n : Fin 2048) (t o : Fin 8) : EReal :=
  max (∑ f, x n t f * w0 f o + ∑ f, smooth x n t f * w1 f o + b o) 0

/-- The sigmoid. -/
def gate (v : EReal) : EReal := Ideal.div 1 (1 + Ideal.exp (-v))

/-- The hidden state's projection. -/
def inner (wh : Fin 256 → Fin 768 → EReal) (bh : Fin 768 → EReal) (h : Fin 4 → Fin 256 → EReal) (b : Fin 4) (j : Fin 768) : EReal :=
  ∑ i, h b i * wh i j + bh j

/-- One recurrent step: the new hidden state from the input's projection `g` and the hidden state `h`. -/
def cell (wh : Fin 256 → Fin 768 → EReal) (bh : Fin 768 → EReal) (g : Fin 4 → Fin 768 → EReal) (h : Fin 4 → Fin 256 → EReal)
    (b : Fin 4) (j : Fin 256) : EReal :=
  let u := inner wh bh h b
  let r := gate (g b ⟨j.val, by omega⟩ + u ⟨j.val, by omega⟩)
  let z := gate (g b ⟨256 + j.val, by omega⟩ + u ⟨256 + j.val, by omega⟩)
  (1 - z) * Ideal.tanh (g b ⟨512 + j.val, by omega⟩ + r * u ⟨512 + j.val, by omega⟩) + z * h b j

/-- The hidden state after the first `k` steps, from zero; `g t` is the input's projection at step `t`. -/
def hidden (wh : Fin 256 → Fin 768 → EReal) (bh : Fin 768 → EReal) (g : ℕ → Fin 4 → Fin 768 → EReal) : ℕ → Fin 4 → Fin 256 → EReal
  | 0 => fun _ _ => 0
  | k + 1 => cell wh bh (g k) (hidden wh bh g k)

/-- The linear head. -/
def head (wf : Fin 256 → Fin 128 → EReal) (bf : Fin 128 → EReal) (h : Fin 4 → Fin 256 → EReal) (b : Fin 4) (j : Fin 128) : EReal :=
  ∑ i, h b i * wf i j + bf j

/-- The projection of the convolved sequence at one step: node and feature run together along the weights' rows. -/
def project (y : Fin 2048 → Fin 8 → EReal) (wi : Fin 16384 → Fin 768 → EReal) (bi : Fin 768 → EReal) (j : Fin 768) : EReal :=
  ∑ k : Fin 16384, y ⟨k.val / 8, by omega⟩ ⟨k.val % 8, by omega⟩ * wi k j + bi j

/-- One of the eight time steps, for a step number. -/
def time (t : ℕ) : Fin 8 := ⟨t % 8, Nat.mod_lt t (by decide)⟩

/-- The recurrence and the head over a convolved sequence `y`, by batch, node, time step and feature. -/
def network (y : Fin 4 → Fin 2048 → Fin 8 → Fin 8 → EReal) (wi : Fin 16384 → Fin 768 → EReal) (bi : Fin 768 → EReal)
    (wh : Fin 256 → Fin 768 → EReal) (bh : Fin 768 → EReal) (wf : Fin 256 → Fin 128 → EReal) (bf : Fin 128 → EReal)
    (b : Fin 4) (j : Fin 128) : EReal :=
  head wf bf (hidden wh bh (fun t b j => project (fun n o => y b n (time t) o) wi bi j) 8) b j

/-- Arrays of one to four axes. -/
abbrev Array1 (n : ℕ) := (⟨1, ![n]⟩ : Shape).Idx → EReal
abbrev Array2 (n k : ℕ) := (⟨2, ![n, k]⟩ : Shape).Idx → EReal
abbrev Array3 (n k l : ℕ) := (⟨3, ![n, k, l]⟩ : Shape).Idx → EReal
abbrev Array4 (n k l p : ℕ) := (⟨4, ![n, k, l, p]⟩ : Shape).Idx → EReal

/-- The features of one batch element: the array lists batch, time step, node, feature. -/
def nodes (x : Array4 4 8 2048 8) (b : Fin 4) : Nodes := fun n t f => x (ix4 b t n f)

/-- The whole answer from the nine arrays. -/
def answer (x : Array4 4 8 2048 8) (w : Array3 2 8 8) (v : Array1 8) (wi : Array2 16384 768) (wh : Array2 256 768) (bi bh : Array1 768)
    (wf : Array2 256 128) (bf : Array1 128) : Fin 4 → Fin 128 → EReal :=
  network (fun b n t o => conv (nodes x b) (fun f o => w (ix3 0 f o)) (fun f o => w (ix3 1 f o)) (fun o => v (ix1 o)) n t o)
    (fun k j => wi (ix2 k j)) (fun j => bi (ix1 j)) (fun i j => wh (ix2 i j)) (fun j => bh (ix1 j)) (fun i j => wf (ix2 i j)) (fun j => bf (ix1 j))

end Cert.Spec

end
-- ==== Proof.KernelIdeal.GruValue.lean ====
/-
  The recurrent kernel's computations read at an index: what one grid point adds to the accumulator, and the last grid
  point's eight steps and head, which are the recurrence of the mathematics.
-/
module

public import proofs.«01_k».proof.Proof.KernelIdeal.GruBody
public import proofs.«01_k».proof.Proof.Spec
public import Idealize.ShloMosaic.Lib.Pointwise

@[expose] public section

set_option maxRecDepth 16384

noncomputable section

namespace Cert.KernelIdeal.Region

open Cert.KernelIdeal Cert.KernelIdeal.Gen
open Idealize.ShloMosaic Idealize.ShloMosaic.TcCoe

section Steps

variable {F : FTy → Type} [FloatOps F] [Named F]

/-- One recurrent step on whole vectors: `g` is the input's projection at the step, `h` the hidden state before it. -/
def turn (wh : Vec F S256x768 .f32) (bh : FVec F S1x768 .f32) (g : FVec F S4x768 .f32) (h : FVec F S4x256 .f32) : FVec F S4x256 .f32 :=
  have u : FVec F S4x768 .f32 := addf (matmul dot_S4x256_S256x768_S4x768_1_0_0_1_n_n none h wh (constant S4x768 .f32 0x00000000#32))
    (broadcastTo S4x768 bh broadcasts_S1x768_S4x768)
  have r : FVec F S4x256 .f32 := logistic (addf (extractStridedSlice S4x256 ![0, 0] g slices_S4x768_o0_0_S4x256)
    (extractStridedSlice S4x256 ![0, 0] u slices_S4x768_o0_0_S4x256))
  have z : FVec F S4x256 .f32 := logistic (addf (extractStridedSlice S4x256 ![0, 256] g slices_S4x768_o0_256_S4x256)
    (extractStridedSlice S4x256 ![0, 256] u slices_S4x768_o0_256_S4x256))
  have n : FVec F S4x256 .f32 := tanh (addf (extractStridedSlice S4x256 ![0, 512] g slices_S4x768_o0_512_S4x256)
    (mulf r (extractStridedSlice S4x256 ![0, 512] u slices_S4x768_o0_512_S4x256)))
  addf (mulf (subf (broadcast S4x256 (Scalar.ofBits .f32 0x3F800000#32)) z) n) (mulf z h)

/-- One step's part of the projected input. -/
def stepOf (g : FVec F S4x8x768 .f32) (t : ℕ) (h : S4x8x768.Slices ![0, t, 0] S4x1x768) : FVec F S4x768 .f32 :=
  shapeCast S4x768 (extractStridedSlice S4x1x768 ![0, t, 0] g h) shapeCasts_S4x1x768_S4x768

/-- The output projection on whole vectors. -/
def outlet (h : FVec F S4x256 .f32) (wf : Vec F S256x128 .f32) (bf : Vec F S1x128 .f32) : FVec F S4x128 .f32 :=
  addf (matmul dot_S4x256_S256x128_S4x128_1_0_0_1_n_n none h wf (constant S4x128 .f32 0x00000000#32))
    (broadcastTo S4x128 (shapeCast S1x128 bf shapeCasts_S1x128_S1x128) broadcasts_S1x128_S4x128)

/-- The last grid point's value is the output projection after eight steps from zero. -/
theorem finish_eq (acc : Vec F S32x768 .f32) (bi : Vec F S1x768 .f32) (wh : Vec F S256x768 .f32) (bh : Vec F S1x768 .f32)
    (wf : Vec F S256x128 .f32) (bf : Vec F S1x128 .f32) :
    finish acc bi wh bh wf bf = outlet
      (turn wh (k1_pay3 bh) (stepOf (k1_pay4 acc bi) 7 slices_S4x8x768_o0_7_0_S4x1x768)
      (turn wh (k1_pay3 bh) (stepOf (k1_pay4 acc bi) 6 slices_S4x8x768_o0_6_0_S4x1x768)
      (turn wh (k1_pay3 bh) (stepOf (k1_pay4 acc bi) 5 slices_S4x8x768_o0_5_0_S4x1x768)
      (turn wh (k1_pay3 bh) (stepOf (k1_pay4 acc bi) 4 slices_S4x8x768_o0_4_0_S4x1x768)
      (turn wh (k1_pay3 bh) (stepOf (k1_pay4 acc bi) 3 slices_S4x8x768_o0_3_0_S4x1x768)
      (turn wh (k1_pay3 bh) (stepOf (k1_pay4 acc bi) 2 slices_S4x8x768_o0_2_0_S4x1x768)
      (turn wh (k1_pay3 bh) (stepOf (k1_pay4 acc bi) 1 slices_S4x8x768_o0_1_0_S4x1x768)
      (turn wh (k1_pay3 bh) (stepOf (k1_pay4 acc bi) 0 slices_S4x8x768_o0_0_0_S4x1x768)
        (broadcast S4x256 (Scalar.ofBits .f32 0x00000000#32)))))))))) wf bf := rfl

end Steps

/-- A recurrent step, entry by entry. -/
theorem turn_apply (wh : Vec Ideal S256x768 .f32) (bh : Vec Ideal S1x768 .f32) (g : FVec Ideal S4x768 .f32) (h : FVec Ideal S4x256 .f32)
    (G : Fin 4 → Fin 768 → EReal) (H : Fin 4 → Fin 256 → EReal) (hG : ∀ b j, g (ix2 b j) = G b j) (hH : ∀ b j, h (ix2 b j) = H b j)
    (b : Fin 4) (j : Fin 256) :
    turn wh (k1_pay3 bh) g h (ix2 b j) = Spec.cell (fun i j => wh (ix2 i j)) (fun j => bh (ix2 0 j)) G H b j := by
  unfold Spec.cell Spec.inner
  simp only [← hG, ← hH]
  unfold turn
  pointwise [k1_pay3]
  rfl

/-- One step's projected input, entry by entry: row `b * 8 + t` of the accumulator and the input bias. -/
theorem stepOf_apply (acc : Vec Ideal S32x768 .f32) (bi : Vec Ideal S1x768 .f32) (t : ℕ) (ht : t < 8) (s : S4x8x768.Slices ![0, t, 0] S4x1x768)
    (b : Fin 4) (j : Fin 768) :
    stepOf (k1_pay4 acc bi) t s (ix2 b j) = acc (ix2 ⟨b.val * 8 + t, by omega⟩ j) + bi (ix2 0 j) := by
  unfold stepOf
  pointwise [k1_pay4]

/-- The output projection, entry by entry. -/
theorem outlet_apply (h : FVec Ideal S4x256 .f32) (wf : Vec Ideal S256x128 .f32) (bf : Vec Ideal S1x128 .f32)
    (H : Fin 4 → Fin 256 → EReal) (hH : ∀ b j, h (ix2 b j) = H b j) (b : Fin 4) (j : Fin 128) :
    outlet h wf bf (ix2 b j) = Spec.head (fun i j => wf (ix2 i j)) (fun j => bf (ix2 0 j)) H b j := by
  unfold Spec.head
  simp only [← hH]
  unfold outlet
  pointwise []

/-- One grid point's contribution: over the eight features and the 256 nodes of the block. -/
def part (x : Vec Ideal S4x64x256 .bf16) (w : Vec Ideal S256x8x768 .f32) (r : Fin 32) (j : Fin 768) : EReal :=
  ∑ o : Fin 8, ∑ s : Fin 256, x (ix3 ⟨r.val / 8, by omega⟩ ⟨o.val * 8 + r.val % 8, by omega⟩ s) * w (ix3 s o j)

/-- Every grid point adds its contribution. -/
theorem accStep_apply (x : Vec Ideal S4x64x256 .bf16) (w : Vec Ideal S256x8x768 .f32) (acc : Vec Ideal S32x768 .f32) (r : Fin 32) (j : Fin 768) :
    accStep x w acc (ix2 r j) = acc (ix2 r j) + part x w r j := by
  unfold part
  rw [Fin.sum_univ_eight]
  unfold accStep
  pointwise [k1_pay1, k1_pay20, k1_pay21, k1_pay22, k1_pay23, k1_pay24]

/-- The first grid point starts from zero. -/
theorem accStep_blank (x : Vec Ideal S4x64x256 .bf16) (w : Vec Ideal S256x8x768 .f32) (r : Fin 32) (j : Fin 768) :
    accStep x w (k1_pay19 (F := Ideal)) (ix2 r j) = part x w r j := by
  rw [accStep_apply]
  pointwise [k1_pay19]

section Finish

variable (acc : Vec Ideal S32x768 .f32) (bi : Vec Ideal S1x768 .f32) (wh : Vec Ideal S256x768 .f32) (bh : Vec Ideal S1x768 .f32)
  (G : ℕ → Fin 4 → Fin 768 → EReal)
  (hG : ∀ (t : ℕ) (ht : t < 8) (b : Fin 4) (j : Fin 768), acc (ix2 ⟨b.val * 8 + t, by omega⟩ j) + bi (ix2 0 j) = G t b j)

include hG

/-- One more step. -/
theorem advance (t : ℕ) (ht : t < 8) (s : S4x8x768.Slices ![0, t, 0] S4x1x768) (h : FVec Ideal S4x256 .f32)
    (hh : ∀ b j, h (ix2 b j) = Spec.hidden (fun i j => wh (ix2 i j)) (fun j => bh (ix2 0 j)) G t b j) (b : Fin 4) (j : Fin 256) :
    turn wh (k1_pay3 bh) (stepOf (k1_pay4 acc bi) t s) h (ix2 b j)
      = Spec.hidden (fun i j => wh (ix2 i j)) (fun j => bh (ix2 0 j)) G (t + 1) b j :=
  turn_apply wh bh _ h (G t) _ (fun b j => (stepOf_apply acc bi t ht s b j).trans (hG t ht b j)) hh b j

/-- The last grid point's value: the head of the hidden state after eight steps. -/
theorem finish_apply (wf : Vec Ideal S256x128 .f32) (bf : Vec Ideal S1x128 .f32) (b : Fin 4) (j : Fin 128) :
    finish acc bi wh bh wf bf (ix2 b j) = Spec.head (fun i j => wf (ix2 i j)) (fun j => bf (ix2 0 j))
      (Spec.hidden (fun i j => wh (ix2 i j)) (fun j => bh (ix2 0 j)) G 8) b j := by
  rw [finish_eq]
  refine outlet_apply _ wf bf _ ?_ b j
  have go := advance acc bi wh bh G hG
  refine go 7 (by omega) _ _ (go 6 (by omega) _ _ (go 5 (by omega) _ _ (go 4 (by omega) _ _ (go 3 (by omega) _ _ (go 2 (by omega) _ _
    (go 1 (by omega) _ _ (go 0 (by omega) _ _ ?_)))))))
  intro b j
  unfold Spec.hidden
  pointwise []

/-- The same, the weights and biases given by functions of coordinates. -/
theorem finish_spec (wf : Vec Ideal S256x128 .f32) (bf : Vec Ideal S1x128 .f32) (WH : Fin 256 → Fin 768 → EReal) (BH : Fin 768 → EReal)
    (WF : Fin 256 → Fin 128 → EReal) (BF : Fin 128 → EReal) (hwh : ∀ i j, wh (ix2 i j) = WH i j) (hbh : ∀ j, bh (ix2 0 j) = BH j)
    (hwf : ∀ i j, wf (ix2 i j) = WF i j) (hbf : ∀ j, bf (ix2 0 j) = BF j) (b : Fin 4) (j : Fin 128) :
    finish acc bi wh bh wf bf (ix2 b j) = Spec.head WF BF (Spec.hidden WH BH G 8) b j := by
  obtain rfl : (fun i j => wh (ix2 i j)) = WH := funext fun i => funext fun j => hwh i j
  obtain rfl : (fun j => bh (ix2 0 j)) = BH := funext hbh
  obtain rfl : (fun i j => wf (ix2 i j)) = WF := funext fun i => funext fun j => hwf i j
  obtain rfl : (fun j => bf (ix2 0 j)) = BF := funext hbf
  exact finish_apply acc bi wh bh G hG wf bf b j

end Finish

end Cert.KernelIdeal.Region

end
-- ==== Proof.KernelIdeal.ConvHost.lean ====
/-
  What the outer program hands the convolution kernel: the features with node before time, the two weight matrices
  spread over the time steps, and the bias repeated. Row `r` of the spread weights belongs to output feature `r / 8` at
  time step `r % 8`, column `k` to time step `k / 8` and input feature `k % 8`.
-/
module

public import proofs.«01_k».proof.Proof.KernelIdeal.Run
public import Idealize.ShloMosaic.Lib.Pointwise
public import Idealize.ShloMosaic.Lib.Pointwise.IndexBridge
public import Idealize.ShloMosaic.Lib.Routing.Ops
public import Idealize.ShloMosaic.Lib.StableHlo.RunRead

@[expose] public section

set_option maxRecDepth 16384

noncomputable section

namespace Cert.KernelIdeal.Region

open Cert.KernelIdeal Cert.KernelIdeal.Gen
open Idealize.ShloMosaic Idealize.ShloMosaic.TcCoe

section Stretches

variable (V : Valuation τ sig (Elt Ideal))

/-- The row numbers' remainders by eight. -/
theorem rem_words (e : (V main_v8 : S64.Idx → BitVec 32) = iotaInDim S64 32 0)
    (e0 : (V main_c_0 : S_.Idx → BitVec 32) = constantI S_ 32 8#32) :
    ∀ r : Fin 64, (StableHlo.after hostOps0_1 V main_v9 : S64.Idx → BitVec 32) (ix1 r) = BitVec.ofNat 32 (r.val % 8) := by
  after_reads_simp
  simp only [StableHlo.TRef.ofBuf_toBuf]
  rw [e, e0]
  intro r
  pointwise []
  revert r
  decide +kernel

/-- The row numbers' quotients by eight. -/
theorem quot_words (e : (V main_v8 : S64.Idx → BitVec 32) = iotaInDim S64 32 0)
    (e0 : (V main_c_2 : S_.Idx → BitVec 32) = constantI S_ 32 8#32) :
    ∀ r : Fin 64, (StableHlo.after hostOps0_3 V main_v12 : S64.Idx → BitVec 32) (ix1 r) = BitVec.ofNat 32 (r.val / 8) := by
  after_reads_simp
  simp only [StableHlo.TRef.ofBuf_toBuf]
  rw [e, e0]
  intro r
  pointwise []
  revert r
  decide +kernel

/-- One entry of a matrix spread over the diagonal blocks, for the first weights. -/
theorem spread5 (E W : S8x8.Idx → EReal) (hE : (V main_v7 : S8x8.Idx → EReal) = E) (hW : (V main_v15 : S8x8.Idx → EReal) = W) (r k : Fin 64) :
    (StableHlo.after hostOps0_5 V main_v16 : S64x64.Idx → EReal) (ix2 r k)
      = E (ix2 ⟨r.val / 8, by omega⟩ ⟨k.val / 8, by omega⟩) * W (ix2 ⟨r.val % 8, by omega⟩ ⟨k.val % 8, by omega⟩) := by
  after_reads_simp
  simp only [StableHlo.TRef.ofBuf_toBuf]
  rw [hE, hW]
  pointwise []
  change mulf (F := Ideal) (φ := .f32) (broadcastInDim S8x8x8x8 ![0, 1, 2, 3] _ (broadcastInDim S8x1x8x1 ![0, 2] _ E))
    (broadcastInDim S8x8x8x8 ![0, 1, 2, 3] _ (broadcastInDim S1x8x1x8 ![1, 3] _ W)) (ix4 _ _ _ _) = _
  pointwise []

/-- The same for the second weights. -/
theorem spread7 (E W : S8x8.Idx → EReal) (hE : (V main_v7 : S8x8.Idx → EReal) = E) (hW : (V main_v27 : S8x8.Idx → EReal) = W) (r k : Fin 64) :
    (StableHlo.after hostOps0_7 V main_v28 : S64x64.Idx → EReal) (ix2 r k)
      = E (ix2 ⟨r.val / 8, by omega⟩ ⟨k.val / 8, by omega⟩) * W (ix2 ⟨r.val % 8, by omega⟩ ⟨k.val % 8, by omega⟩) := by
  after_reads_simp
  simp only [StableHlo.TRef.ofBuf_toBuf]
  rw [hE, hW]
  pointwise []
  change mulf (F := Ideal) (φ := .f32) (broadcastInDim S8x8x8x8 ![0, 1, 2, 3] _ (broadcastInDim S8x1x8x1 ![0, 2] _ E))
    (broadcastInDim S8x8x8x8 ![0, 1, 2, 3] _ (broadcastInDim S1x8x1x8 ![1, 3] _ W)) (ix4 _ _ _ _) = _
  pointwise []

/-- The word that says whether two time steps are the same. -/
theorem same_word : ∀ r k : Fin 8, IntOp.cmpi CmpIPredicate.eq (IntOp.addi (BitVec.ofNat 32 r.val) 0#32) (BitVec.ofNat 32 k.val)
    = if r = k then 1#1 else 0#1 := by decide

/-- The identity matrix. -/
theorem eye_entry (r k : Fin 8) : (StableHlo.after hostOps0 V main_v7 : S8x8.Idx → EReal) (ix2 r k) = if r = k then (1 : EReal) else 0 := by
  after_reads_simp
  pointwise []
  rw [same_word]
  split
  · exact (congrArg (fun q : ℝ => (q : EReal)) Nat.cast_one).trans EReal.coe_one
  · exact (congrArg (fun q : ℝ => (q : EReal)) Nat.cast_zero).trans EReal.coe_zero

/-- A row number is not negative, so the row picked is the one named. -/
theorem row_word : ∀ r : Fin 64, Scalar.select (IntOp.cmpi CmpIPredicate.slt (BitVec.ofNat 32 (r.val % 8 * 8 + r.val / 8)) 0#32)
    (IntOp.addi (BitVec.ofNat 32 (r.val % 8 * 8 + r.val / 8)) 64#32) (BitVec.ofNat 32 (r.val % 8 * 8 + r.val / 8))
    = BitVec.ofNat 32 (r.val % 8 * 8 + r.val / 8) := by decide +kernel

/-- Rows of a transposed matrix picked in the order `P`. -/
theorem pick_row (X : S64x64.Idx → EReal) (P : S64.Idx → BitVec 32)
    (hP : ∀ r : Fin 64, P (ix1 r) = BitVec.ofNat 32 (r.val % 8 * 8 + r.val / 8)) (r k : Fin 64) :
    Host.gather gather_S64x64_S64x1_S64x64_1_0_n_n_0_1_164 (transpose S64x64 [1, 0] X transposes_S64x64_S64x64_1_0)
      (broadcastInDim S64x1 ![0] bcast_S64_S64x1_0 (select (cmpi CmpIPredicate.slt P (broadcastInDim S64 ![] bcast_S_S64 (constantI S_ 32 0#32)))
        (addi P (broadcastInDim S64 ![] bcast_S_S64 (constantI S_ 32 64#32))) P)) (ix2 r k)
      = X (ix2 k ⟨r.val % 8 * 8 + r.val / 8, by omega⟩) := by
  rw [ix2_eq_valueIdx r k]
  refine (Routing.gather_row (nb := 64) (B := 64) (n := 64) _ rfl rfl rfl rfl rfl _ _ r k ⟨r.val % 8 * 8 + r.val / 8, by omega⟩ ?_ (by norm_num)).trans ?_
  · rw [← ix2_eq_valueIdx r 0]
    pointwise []
    rw [hP]
    exact row_word r
  · rw [← ix2_eq_valueIdx]
    pointwise []

theorem pick6 (X : S64x64.Idx → EReal) (P : S64.Idx → BitVec 32) (hX : (V main_v16 : S64x64.Idx → EReal) = X)
    (hV : (V main_v13 : S64.Idx → BitVec 32) = P) (hP : ∀ r : Fin 64, P (ix1 r) = BitVec.ofNat 32 (r.val % 8 * 8 + r.val / 8)) (r k : Fin 64) :
    (StableHlo.after hostOps0_6 V main_v25 : S64x64.Idx → EReal) (ix2 r k) = X (ix2 k ⟨r.val % 8 * 8 + r.val / 8, by omega⟩) := by
  after_reads_simp
  rw [hX, hV]
  exact pick_row X P hP r k

theorem pick8 (X : S64x64.Idx → EReal) (P : S64.Idx → BitVec 32) (hX : (V main_v28 : S64x64.Idx → EReal) = X)
    (hV : (V main_v13 : S64.Idx → BitVec 32) = P) (hP : ∀ r : Fin 64, P (ix1 r) = BitVec.ofNat 32 (r.val % 8 * 8 + r.val / 8)) (r k : Fin 64) :
    (StableHlo.after hostOps0_8 V main_v37 : S64x64.Idx → EReal) (ix2 r k) = X (ix2 k ⟨r.val % 8 * 8 + r.val / 8, by omega⟩) := by
  after_reads_simp
  rw [hX, hV]
  exact pick_row X P hP r k

/-- The two halves of the row order put together. -/
theorem add4 (P Q : S64.Idx → BitVec 32) (hP : (V main_v11 : S64.Idx → BitVec 32) = P) (hQ : (V main_v12 : S64.Idx → BitVec 32) = Q) :
    (StableHlo.after hostOps0_4 V main_v13 : S64.Idx → BitVec 32) = addi P Q := by
  after_reads_simp
  rw [hP, hQ]

theorem mul2 (P : S64.Idx → BitVec 32) (hP : (V main_v9 : S64.Idx → BitVec 32) = P) :
    (StableHlo.after hostOps0_2 V main_v11 : S64.Idx → BitVec 32) = muli P (broadcastInDim S64 ![] bcast_S_S64 (constantI S_ 32 8#32)) := by
  after_reads_simp
  rw [hP]

end Stretches

variable (m : (ℓ : Loc nD τ sig) → Buf (Elt Ideal) ℓ) (c : Dev nD)

/-- The features the kernel reads: node, then time step and feature together. -/
theorem features (x : S4x8x2048x8.Idx → EReal) (hx : (V0 m c main_arg0 : S4x8x2048x8.Idx → EReal) = x) (b : Fin 4) (n : Fin 2048) (k : Fin 64) :
    (V9 m c main_v1 : S4x2048x64.Idx → EReal) (ix3 b n k) = x (ix4 b ⟨k.val / 8, by omega⟩ n ⟨k.val % 8, by omega⟩) := by
  after_reads_simp
  rw [hx]
  pointwise []

/-- The bias row `r` of the kernel's fourth operand. -/
theorem bias (v : S8.Idx → EReal) (hv : (V0 m c main_arg2 : S8.Idx → EReal) = v) (r : Fin 64) (l : Fin 128) :
    (V9 m c main_v41 : S64x128.Idx → EReal) (ix2 r l) = v (ix1 ⟨r.val / 8, by omega⟩) := by
  after_reads_simp
  rw [hv]
  pointwise []

/-- The order the rows are picked in. -/
theorem order (r : Fin 64) : (V5 m c main_v13 : S64.Idx → BitVec 32) (ix1 r) = BitVec.ofNat 32 (r.val % 8 * 8 + r.val / 8) := by
  have e8 : (V1 m c main_v8 : S64.Idx → BitVec 32) = iotaInDim S64 32 0 := by after_reads_simp
  have q := quot_words (V3 m c) ((V3_of m c main_v8 (by decide)).trans ((V2_of m c main_v8 (by decide)).trans e8)) (by after_reads_simp) r
  have p := rem_words (V1 m c) e8 (by after_reads_simp) r
  have s := congrFun (add4 (V4 m c) _ _ ((V4_of m c main_v11 (by decide)).trans (mul2 (V2 m c) _ rfl)) rfl) (ix1 r)
  refine s.trans ?_
  change IntOp.addi (IntOp.muli ((V2 m c main_v9 : S64.Idx → BitVec 32) (ix1 r)) 8#32) ((V4 m c main_v12 : S64.Idx → BitVec 32) (ix1 r)) = _
  refine (congrArg₂ (fun a b : BitVec 32 => IntOp.addi (IntOp.muli a 8#32) b) p q).trans ?_
  clear s p q e8
  revert r
  decide +kernel

/-- The identity matrix, wherever it is read. -/
theorem eye_kept : (V5 m c main_v7 : S8x8.Idx → EReal) = V1 m c main_v7 :=
  (V5_of m c main_v7 (by decide)).trans ((V4_of m c main_v7 (by decide)).trans ((V3_of m c main_v7 (by decide)).trans (V2_of m c main_v7 (by decide))))

variable (w : S2x8x8.Idx → EReal)

/-- The first weights the kernel reads. -/
theorem weights0 (hw : (V0 m c main_arg1 : S2x8x8.Idx → EReal) = w) (r k : Fin 64) :
    (V9 m c main_v25 : S64x64.Idx → EReal) (ix2 r k)
      = (if (⟨k.val / 8, by omega⟩ : Fin 8) = ⟨r.val % 8, by omega⟩ then (1 : EReal) else 0)
        * w (ix3 0 ⟨k.val % 8, by omega⟩ ⟨r.val / 8, by omega⟩) := by
  have hW : ∀ a b : Fin 8, (V5 m c main_v15 : S8x8.Idx → EReal) (ix2 a b) = w (ix3 0 a b) := by
    after_reads_simp
    rw [hw]
    intro a b
    pointwise []
  have h0 : (r.val % 8 * 8 + r.val / 8) / 8 = r.val % 8 := by omega
  have h1 : (r.val % 8 * 8 + r.val / 8) % 8 = r.val / 8 := by omega
  refine (congrFun ((V9_of m c main_v25 (by decide)).trans (V8_of m c main_v25 (by decide))) (ix2 r k)).trans ?_
  refine (pick6 (V6 m c) _ _ rfl (V6_of m c main_v13 (by decide)) (order m c) r k).trans ?_
  refine (spread5 (V5 m c) (V1 m c main_v7) (V5 m c main_v15) (eye_kept m c) rfl k _).trans ?_
  refine (congrArg₂ (fun a b : EReal => a * b) (eye_entry (V0 m c) _ _) (hW _ _)).trans ?_
  simp only [h0, h1]

/-- The second weights the kernel reads. -/
theorem weights1 (hw : (V0 m c main_arg1 : S2x8x8.Idx → EReal) = w) (r k : Fin 64) :
    (V9 m c main_v37 : S64x64.Idx → EReal) (ix2 r k)
      = (if (⟨k.val / 8, by omega⟩ : Fin 8) = ⟨r.val % 8, by omega⟩ then (1 : EReal) else 0)
        * w (ix3 1 ⟨k.val % 8, by omega⟩ ⟨r.val / 8, by omega⟩) := by
  have hW : ∀ a b : Fin 8, (V7 m c main_v27 : S8x8.Idx → EReal) (ix2 a b) = w (ix3 1 a b) := by
    after_reads_simp
    rw [hw]
    intro a b
    pointwise []
  have h0 : (r.val % 8 * 8 + r.val / 8) / 8 = r.val % 8 := by omega
  have h1 : (r.val % 8 * 8 + r.val / 8) % 8 = r.val / 8 := by omega
  refine (pick8 (V8 m c) _ _ rfl ((V8_of m c main_v13 (by decide)).trans ((V7_of m c main_v13 (by decide)).trans (V6_of m c main_v13 (by decide))))
    (order m c) r k).trans ?_
  refine (spread7 (V7 m c) (V1 m c main_v7) (V7 m c main_v27) ((V7_of m c main_v7 (by decide)).trans ((V6_of m c main_v7 (by decide)).trans
    (eye_kept m c))) rfl k _).trans ?_
  refine (congrArg₂ (fun a b : EReal => a * b) (eye_entry (V0 m c) _ _) (hW _ _)).trans ?_
  simp only [h0, h1]

end Cert.KernelIdeal.Region

end
-- ==== Proof.KernelIdeal.ConvValue.lean ====
/-
  The convolution kernel's block read at an index: the adjacency of two nodes, the smoothed features, and the output
  block with its time step and feature folded into one row.
-/
module

public import proofs.«01_k».proof.Proof.KernelIdeal.ConvBody
public import Idealize.ShloMosaic.Lib.Pointwise

@[expose] public section

set_option maxRecDepth 16384

noncomputable section

namespace Cert.KernelIdeal.Region

open Cert.KernelIdeal Cert.KernelIdeal.Gen
open Idealize.ShloMosaic Idealize.ShloMosaic.TcCoe

/-- The constant the middle features are multiplied by. -/
abbrev root : EReal := Named.named (F := Ideal) κ "sqrt2" (φ := .f32) 1068827891#32

variable (x : Vec Ideal S1x2048x64 .f32)

/-- A node's middle features, multiplied. -/
def mid (n : Fin 2048) (f : Fin 8) : EReal := x (ix3 0 n ⟨32 + f.val, by omega⟩) * root

/-- The adjacency of two nodes as the kernel computes it. -/
def near (n m : Fin 2048) : EReal :=
  Ideal.exp (min (∑ f, mid x n f * mid x m f - Ideal.ofBits .f32 1056964608#32 * ∑ f, mid x n f * mid x n f
    - Ideal.ofBits .f32 1056964608#32 * ∑ f, mid x m f * mid x m f) 0)

theorem near_eq (n m : Fin 2048) : k0_pay3 x (ix2 n m) = near x n m := by
  unfold near mid root
  pointwise [k0_pay3, k0_pay4, k0_pay2]

/-- One over the root of a node's degree as the kernel computes it. -/
def weight (n : Fin 2048) : EReal := Ideal.rsqrt (∑ m, near x n m + Ideal.ofBits .f32 897988541#32)

/-- The smoothed features as the kernel computes them. -/
def blur (n : Fin 2048) (k : Fin 64) : EReal := weight x n * ∑ m, near x n m * (weight x m * x (ix3 0 m k))

theorem blur_eq (n : Fin 2048) (k : Fin 64) : k0_pay5 x (k0_pay4 x) (ix2 n k) = blur x n k := by
  unfold blur weight
  simp only [← near_eq]
  pointwise [k0_pay5, k0_pay4, k0_pay2]

/-- The output block: row `r` holds the output feature and the time step together. -/
theorem convBlock_apply (w0 w1 : Vec Ideal S64x64 .bf16) (b : Vec Ideal S64x128 .f32) (r : Fin 64) (n : Fin 2048) :
    convBlock x w0 w1 b (ix3 0 r n) = max (∑ k, w0 (ix2 r k) * x (ix3 0 n k) + ∑ k, w1 (ix2 r k) * blur x n k + b (ix2 r 0)) 0 := by
  simp only [← blur_eq]
  unfold convBlock
  pointwise [k0_pay1, k0_pay6, k0_pay2]

end Cert.KernelIdeal.Region

end
-- ==== Proof.Real.lean ====
/-
  Facts about extended reals that happen to be real: sums, the constants one half, two and the small degree
  number, and a nonnegative real factor taken into a sum.
-/
module

public import proofs.«01_k».proof.Proof.Spec
public import Idealize.ShloMosaic.Lib.IdealHost

@[expose] public section

noncomputable section

namespace Cert.Spec

open Idealize.ShloMosaic

/-- A sum of reals, read in the extended reals. -/
theorem coe_total {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- A nonnegative real factor may be taken into a sum, whatever the terms are. -/
theorem mul_total {ι : Type} [Fintype ι] (r : ℝ) (hr : 0 ≤ r) (f : ι → EReal) : (r : EReal) * ∑ i, f i = ∑ i, (r : EReal) * f i := by
  classical
  refine Finset.induction_on (Finset.univ : Finset ι) (by simp) fun a s ha ih => ?_
  rw [Finset.sum_insert ha, Finset.sum_insert ha, EReal.left_distrib_of_nonneg_of_ne_top (EReal.coe_nonneg.mpr hr) (EReal.coe_ne_top r), ih]

theorem half_eq : Ideal.ofBits .f32 1056964608#32 = ((1 / 2 : ℝ) : EReal) := by
  simp [Ideal.ofBits, Ideal.ieee, -EReal.coe_mul]; norm_num

theorem two_eq : Ideal.ofBits .f32 1073741824#32 = ((2 : ℝ) : EReal) := by
  simp [Ideal.ofBits, Ideal.ieee, -EReal.coe_mul]; norm_num

/-- The small degree number is a positive real. -/
theorem tiny_pos : ∃ e : ℝ, 0 < e ∧ tiny = (e : EReal) := by
  unfold tiny
  simp [Ideal.ofBits, Ideal.ieee, -EReal.coe_mul]

/-- The larger of two reals. -/
theorem coe_larger (a b : ℝ) : max (a : EReal) (b : EReal) = ((max a b : ℝ) : EReal) :=
  (EReal.coe_strictMono.monotone.map_max).symm

theorem coe_smaller (a b : ℝ) : min (a : EReal) (b : EReal) = ((min a b : ℝ) : EReal) :=
  (EReal.coe_strictMono.monotone.map_min).symm

/-- One over a square root, in the two ways it is written. -/
theorem rsqrt_pos (d : ℝ) (hd : 0 < d) : Ideal.rsqrt (d : EReal) = (((Real.sqrt d)⁻¹ : ℝ) : EReal) := by
  rw [Ideal.rsqrt_coe, if_neg (not_lt.mpr hd.le), if_neg hd.ne']

theorem div_sqrt_pos (d : ℝ) (hd : 0 < d) : Ideal.div 1 (Ideal.sqrt (d : EReal)) = (((Real.sqrt d)⁻¹ : ℝ) : EReal) := by
  rw [Ideal.sqrt_coe, if_neg (not_lt.mpr hd.le), Ideal.div_coe (Real.sqrt_pos.mpr hd).ne', one_mul, one_div]

end Cert.Spec

end
-- ==== Proof.KernelIdeal.ConvEquation.lean ====
/-
  The convolution kernel's block is the convolution of the mathematics, where the middle time step's features are
  finite: then distances, adjacencies and degrees are real numbers, the factor of the square root of two squared is the
  two of the distance, and the degree's root may be taken into the sum over the neighbours.
-/
module

public import proofs.«01_k».proof.Proof.KernelIdeal.ConvValue
public import proofs.«01_k».proof.Proof.Real
public import Idealize.ShloMosaic.Lib.Pipeline.ValueKit.Acc

@[expose] public section

set_option maxRecDepth 16384

noncomputable section

namespace Cert.KernelIdeal.Region

open Cert.KernelIdeal Cert.KernelIdeal.Gen
open Idealize.ShloMosaic Idealize.ShloMosaic.TcCoe

theorem root_eq : root = ((Real.sqrt 2 : ℝ) : EReal) := IdealRules.named_const.ideal_named_scalar _ _ _ _ rfl

/-- The adjacency in real numbers: from half the squared lengths and the product, each taken twice, to the distance. -/
theorem near_real (p q d : ℝ) :
    min (d - 1 / 2 * p - 1 / 2 * q) 0 = -max (1 / 2 * p + 1 / 2 * q - d) 0 := by
  rw [← min_neg_neg, neg_zero]
  congr 1
  ring

variable (x : Vec Ideal S1x2048x64 .f32) (X : Spec.Nodes) (hX : ∀ n k, x (ix3 0 n k) = X n ⟨k.val / 8, Spec.quot_lt k⟩ ⟨k.val % 8, Spec.rem_lt k⟩)
  (a : Fin 2048 → Fin 8 → ℝ) (ha : ∀ n f, X n 4 f = (a n f : EReal))

include hX ha

theorem mid_real (n : Fin 2048) (f : Fin 8) : mid x n f = ((a n f * Real.sqrt 2 : ℝ) : EReal) := by
  unfold mid
  rw [hX, root_eq, EReal.coe_mul, ← ha]
  congr 2
  · exact Fin.ext (by show (32 + f.val) / 8 = 4; omega)
  · exact Fin.ext (by show (32 + f.val) % 8 = f.val; omega)

/-- The product of two nodes' multiplied features is twice the product of the features. -/
theorem mid_product (n m : Fin 2048) : ∑ f, mid x n f * mid x m f = ((2 * ∑ f, a n f * a m f : ℝ) : EReal) := by
  simp only [mid_real x X hX a ha, ← EReal.coe_mul]
  rw [← Spec.coe_total, Finset.mul_sum]
  refine congrArg _ (Finset.sum_congr rfl fun f _ => ?_)
  have := Real.mul_self_sqrt (show (0 : ℝ) ≤ 2 by norm_num)
  linear_combination a n f * a m f * this

omit hX in
/-- The squared distance is real. -/
theorem dist_real (n m : Fin 2048) : Spec.dist X n m
    = ((max (∑ f, a n f * a n f + ∑ f, a m f * a m f - 2 * ∑ f, a n f * a m f) 0 : ℝ) : EReal) := by
  unfold Spec.dist Spec.sq
  simp only [ha, ← EReal.coe_mul, ← Spec.coe_total, Spec.two_eq]
  rw [← EReal.coe_add, ← EReal.coe_sub, ← EReal.coe_zero, Spec.coe_larger]

omit hX in
theorem adj_real (n m : Fin 2048) : Spec.adj X n m
    = ((Real.exp (-max (∑ f, a n f * a n f + ∑ f, a m f * a m f - 2 * ∑ f, a n f * a m f) 0) : ℝ) : EReal) := by
  unfold Spec.adj
  rw [dist_real X a ha, ← EReal.coe_neg, ← EReal.coe_one, Ideal.div_coe one_ne_zero, ← EReal.coe_mul, Ideal.exp_coe]
  simp only [div_one, mul_one]

theorem near_adj (n m : Fin 2048) : near x n m = Spec.adj X n m := by
  rw [adj_real X a ha]
  unfold near
  rw [mid_product x X hX a ha n m, mid_product x X hX a ha n n, mid_product x X hX a ha m m, Spec.half_eq, ← EReal.coe_mul, ← EReal.coe_mul,
    ← EReal.coe_sub, ← EReal.coe_sub, ← EReal.coe_zero, Spec.coe_smaller, Ideal.exp_coe, near_real]
  congr 5
  ring

omit hX in
/-- A degree with the small number added is a positive real. -/
theorem degree_real (n : Fin 2048) : ∃ d : ℝ, 0 < d ∧ ∑ m, Spec.adj X n m + Spec.tiny = (d : EReal) := by
  obtain ⟨e, he, ht⟩ := Spec.tiny_pos
  simp only [adj_real X a ha]
  rw [← Spec.coe_total, ht, ← EReal.coe_add]
  exact ⟨_, add_pos_of_nonneg_of_pos (Finset.sum_nonneg fun _ _ => (Real.exp_pos _).le) he, rfl⟩

theorem weight_scale (n : Fin 2048) : weight x n = Spec.scale X n := by
  unfold weight Spec.scale
  simp only [near_adj x X hX a ha]
  obtain ⟨d, hd, e⟩ := degree_real X a ha n
  rw [e, Spec.div_sqrt_pos d hd, ← Spec.rsqrt_pos d hd, ← e]
  rfl

omit hX in
theorem scale_real (n : Fin 2048) : ∃ s : ℝ, 0 ≤ s ∧ Spec.scale X n = (s : EReal) := by
  obtain ⟨d, hd, e⟩ := degree_real X a ha n
  exact ⟨_, inv_nonneg.mpr (Real.sqrt_nonneg d), by unfold Spec.scale; rw [e, Spec.div_sqrt_pos d hd]⟩

theorem blur_smooth (n : Fin 2048) (k : Fin 64) : blur x n k = Spec.smooth X n ⟨k.val / 8, Spec.quot_lt k⟩ ⟨k.val % 8, Spec.rem_lt k⟩ := by
  unfold blur Spec.smooth
  simp only [weight_scale x X hX a ha, near_adj x X hX a ha, hX]
  obtain ⟨s, hs, e⟩ := scale_real X a ha n
  rw [e, Spec.mul_total s hs]
  exact Finset.sum_congr rfl fun m _ => by ac_rfl

omit hX ha

/-- A sum over a spread row keeps the terms of its own time step. -/
theorem spread_total (w : Fin 8 → EReal) (y : Fin 8 → Fin 8 → EReal) (t : Fin 8) :
    ∑ k : Fin 64, ((if (⟨k.val / 8, Spec.quot_lt k⟩ : Fin 8) = t then (1 : EReal) else 0) * w ⟨k.val % 8, Spec.rem_lt k⟩)
      * y ⟨k.val / 8, Spec.quot_lt k⟩ ⟨k.val % 8, Spec.rem_lt k⟩ = ∑ f, y t f * w f := by
  refine (Fin.sum_divmod_congr (A := 8) (S := 8) (f := fun a f => ((if a = t then (1 : EReal) else 0) * w f) * y a f) fun k _ _ => rfl).trans ?_
  rw [Finset.sum_eq_single t]
  · exact Finset.sum_congr rfl fun f _ => by rw [if_pos rfl, one_mul, mul_comm]
  · intro a _ h
    exact Finset.sum_eq_zero fun f _ => by rw [if_neg h, zero_mul, zero_mul]
  · exact fun h => absurd (Finset.mem_univ t) h

include hX ha

/-- The block: row `r` is output feature `r / 8` at time step `r % 8`. -/
theorem convBlock_eq (w0 w1 : Vec Ideal S64x64 .bf16) (b : Vec Ideal S64x128 .f32) (W0 W1 : Fin 8 → Fin 8 → EReal) (B : Fin 8 → EReal)
    (h0 : ∀ r k : Fin 64, w0 (ix2 r k) = (if (⟨k.val / 8, Spec.quot_lt k⟩ : Fin 8) = ⟨r.val % 8, Spec.rem_lt r⟩ then (1 : EReal) else 0)
      * W0 ⟨k.val % 8, Spec.rem_lt k⟩ ⟨r.val / 8, Spec.quot_lt r⟩)
    (h1 : ∀ r k : Fin 64, w1 (ix2 r k) = (if (⟨k.val / 8, Spec.quot_lt k⟩ : Fin 8) = ⟨r.val % 8, Spec.rem_lt r⟩ then (1 : EReal) else 0)
      * W1 ⟨k.val % 8, Spec.rem_lt k⟩ ⟨r.val / 8, Spec.quot_lt r⟩)
    (hb : ∀ r : Fin 64, b (ix2 r 0) = B ⟨r.val / 8, Spec.quot_lt r⟩) (r : Fin 64) (n : Fin 2048) :
    convBlock x w0 w1 b (ix3 0 r n) = Spec.conv X W0 W1 B n ⟨r.val % 8, Spec.rem_lt r⟩ ⟨r.val / 8, Spec.quot_lt r⟩ := by
  rw [convBlock_apply]
  unfold Spec.conv
  simp only [h0, h1, hb, hX, blur_smooth x X hX a ha]
  rw [spread_total (fun f => W0 f ⟨r.val / 8, Spec.quot_lt r⟩) (X n), spread_total (fun f => W1 f ⟨r.val / 8, Spec.quot_lt r⟩) (Spec.smooth X n)]

end Cert.KernelIdeal.Region

end
-- ==== Proof.KernelIdeal.ConvArray.lean ====
/-
  The array the convolution kernel leaves: entry `(b, r, n)` is the convolution of batch `b` at node `n`, at time step
  `r % 8` and output feature `r / 8`. Grid point `b` reads batch `b` and writes block `b`; the four blocks tile the array.
-/
module

public import proofs.«01_k».proof.Proof.KernelIdeal.ConvHost
public import proofs.«01_k».proof.Proof.KernelIdeal.ConvEquation
public import Idealize.ShloMosaic.Lib.Pipeline.Value

@[expose] public section

set_option maxRecDepth 16384

noncomputable section

namespace Cert.KernelIdeal.Region

open Cert.KernelIdeal Cert.KernelIdeal.Gen
open Idealize.ShloMosaic Idealize.ShloMosaic.TcCoe
open Idealize.ShloMosaic.Pipeline (Dat)

section Blocks

variable (W : Dev nD → Valuation τ sig (Elt Ideal)) (c : Dev nD)

/-- Grid point `t` sits at block `t` along the batch axis, and at block zero along the others. -/
theorem conv_place : ∀ t : Fin cfg0.N, win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem convBlk0 (t : Fin cfg0.N) (n : Fin 2048) (k : Fin 64) :
    (convBlk W c 0 t : S1x2048x64.Idx → EReal) (ix3 0 n k) = (W c main_v1 : S4x2048x64.Idx → EReal) (ix3 ⟨t.val, lt_of_lt_of_eq t.isLt N_0⟩ n k) := by
  obtain ⟨p0, p1, p2, -⟩ := conv_place t
  refine congrArg (W c main_v1 : S4x2048x64.Idx → EReal) ?_
  funext a
  apply Fin.ext
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 64 + 1 * k.val = k.val; omega

theorem convBlk1 (t : Fin cfg0.N) (r k : Fin 64) :
    (convBlk W c 1 t : S64x64.Idx → EReal) (ix2 r k) = (W c main_v25 : S64x64.Idx → EReal) (ix2 r k) := by
  obtain ⟨-, -, -, -, -, -, p0, p1, -⟩ := conv_place t
  refine congrArg (W c main_v25 : S64x64.Idx → EReal) ?_
  funext a
  apply Fin.ext
  match a with
  | ⟨0, _⟩ => show win0_1.index t (0 : Fin 2) * 64 + 1 * r.val = r.val; omega
  | ⟨1, _⟩ => show win0_1.index t (1 : Fin 2) * 64 + 1 * k.val = k.val; omega

theorem convBlk2 (t : Fin cfg0.N) (r k : Fin 64) :
    (convBlk W c 2 t : S64x64.Idx → EReal) (ix2 r k) = (W c main_v37 : S64x64.Idx → EReal) (ix2 r k) := by
  obtain ⟨-, -, -, -, -, -, -, -, p0, p1, -⟩ := conv_place t
  refine congrArg (W c main_v37 : S64x64.Idx → EReal) ?_
  funext a
  apply Fin.ext
  match a with
  | ⟨0, _⟩ => show win0_2.index t (0 : Fin 2) * 64 + 1 * r.val = r.val; omega
  | ⟨1, _⟩ => show win0_2.index t (1 : Fin 2) * 64 + 1 * k.val = k.val; omega

theorem convBlk3 (t : Fin cfg0.N) (r : Fin 64) (l : Fin 128) :
    (convBlk W c 3 t : S64x128.Idx → EReal) (ix2 r l) = (W c main_v41 : S64x128.Idx → EReal) (ix2 r l) := by
  obtain ⟨-, -, -, -, -, -, -, -, -, -, p0, p1⟩ := conv_place t
  refine congrArg (W c main_v41 : S64x128.Idx → EReal) ?_
  funext a
  apply Fin.ext
  match a with
  | ⟨0, _⟩ => show win0_3.index t (0 : Fin 2) * 64 + 1 * r.val = r.val; omega
  | ⟨1, _⟩ => show win0_3.index t (1 : Fin 2) * 128 + 1 * l.val = l.val; omega

/-- Where an entry of point `t`'s output block lies in the array. -/
theorem conv_out_place (t : Fin cfg0.N) (y : S1x64x2048.Idx) :
    ((cfg0.win 4).blk t).view.emb y = (ix3 ⟨t.val, lt_of_lt_of_eq t.isLt N_0⟩ (y 1) (y 2) : S4x64x2048.Idx) := by
  obtain ⟨-, -, -, p0, p1, p2, -⟩ := conv_place t
  have h0 : (y 0).val < 1 := (y 0).isLt
  funext a
  apply Fin.ext
  match a with
  | ⟨0, _⟩ => show win0_4.index t (0 : Fin 3) * 1 + 1 * (y 0).val = t.val; omega
  | ⟨1, _⟩ => show win0_4.index t (1 : Fin 3) * 64 + 1 * (y 1).val = (y 1).val; omega
  | ⟨2, _⟩ => show win0_4.index t (2 : Fin 3) * 2048 + 1 * (y 2).val = (y 2).val; omega

/-- Every entry of the array is in the block of its batch's point. -/
theorem conv_covered (b : Fin 4) (r : Fin 64) (n : Fin 2048) :
    (ix3 b r n : S4x64x2048.Idx) ∈ ((cfg0.win 4).blk ⟨b.val, lt_of_lt_of_eq b.isLt N_0.symm⟩).view.set := by
  have e := conv_out_place ⟨b.val, lt_of_lt_of_eq b.isLt N_0.symm⟩ (ix3 0 r n)
  have h := ((cfg0.win 4).blk ⟨b.val, lt_of_lt_of_eq b.isLt N_0.symm⟩).view.emb_mem_set (ix3 0 r n : S1x64x2048.Idx)
  rw [e] at h
  exact h

/-- If every block is a function of the array's index, the array is that function. -/
theorem conv_array (G : Fin 4 → Fin 64 → Fin 2048 → EReal)
    (hG : ∀ (t : Fin cfg0.N) (r : Fin 64) (n : Fin 2048),
      convBlock (convBlk W c 0 t) (convBlk W c 1 t) (convBlk W c 2 t) (convBlk W c 3 t) (ix3 0 r n) = G ⟨t.val, lt_of_lt_of_eq t.isLt N_0⟩ r n)
    (b : Fin 4) (r : Fin 64) (n : Fin 2048) :
    ((convDat W c).arrAt 4 cfg0.N : S4x64x2048.Idx → EReal) (ix3 b r n) = G b r n := by
  refine (convDat W c).arrAt_apply_of_mem 4 (fun i : S4x64x2048.Idx => G (i 0) (i 1) (i 2)) ?_ cfg0.N ⟨b.val, lt_of_lt_of_eq b.isLt N_0.symm⟩ (ix3 b r n)
    (Fin.isLt _) (flush0_4 _) (conv_covered b r n)
  intro t _
  show (cfg0.win 4).cut (grid0.coords t) ((convDat W c).after 4 t) = _
  rw [conv_after4]
  funext y
  have e := conv_out_place t y
  show convBlock (convBlk W c 0 t) (convBlk W c 1 t) (convBlk W c 2 t) (convBlk W c 3 t) y
    = (fun i : S4x64x2048.Idx => G (i 0) (i 1) (i 2)) (((cfg0.win 4).blk t).view.emb y)
  rw [e]
  obtain ⟨a, r, n, rfl⟩ : ∃ (a : Fin 1) (r : Fin 64) (n : Fin 2048), y = ix3 a r n := ⟨y 0, y 1, y 2, eq_ix3 y⟩
  obtain rfl : a = 0 := Subsingleton.elim _ _
  exact hG t r n

end Blocks

section Array

variable (m : (ℓ : Loc nD τ sig) → Buf (Elt Ideal) ℓ) (c : Dev nD)
  (x : S4x8x2048x8.Idx → EReal) (hx : (V0 m c main_arg0 : S4x8x2048x8.Idx → EReal) = x)
  (w : S2x8x8.Idx → EReal) (hw : (V0 m c main_arg1 : S2x8x8.Idx → EReal) = w)
  (v : S8.Idx → EReal) (hv : (V0 m c main_arg2 : S8.Idx → EReal) = v)
  (a : Fin 4 → Fin 2048 → Fin 8 → ℝ) (ha : ∀ b n f, x (ix4 b 4 n f) = (a b n f : EReal))

include hx hw hv ha

/-- The convolution's array, entry by entry. -/
theorem conv_value (b : Fin 4) (r : Fin 64) (n : Fin 2048) :
    ((convDat (V9 m) c).arrAt 4 cfg0.N : S4x64x2048.Idx → EReal) (ix3 b r n)
      = Spec.conv (Spec.nodes x b) (fun f o => w (ix3 0 f o)) (fun f o => w (ix3 1 f o)) (fun o => v (ix1 o)) n ⟨r.val % 8, Spec.rem_lt r⟩ ⟨r.val / 8, Spec.quot_lt r⟩ := by
  refine conv_array (V9 m) c (fun b r n => Spec.conv (Spec.nodes x b) (fun f o => w (ix3 0 f o)) (fun f o => w (ix3 1 f o)) (fun o => v (ix1 o)) n
    ⟨r.val % 8, Spec.rem_lt r⟩ ⟨r.val / 8, Spec.quot_lt r⟩) ?_ b r n
  intro t r n
  refine convBlock_eq _ (Spec.nodes x ⟨t.val, lt_of_lt_of_eq t.isLt N_0⟩) ?_ (a ⟨t.val, lt_of_lt_of_eq t.isLt N_0⟩) (fun n f => ha _ n f)
    _ _ _ (fun f o => w (ix3 0 f o)) (fun f o => w (ix3 1 f o)) (fun o => v (ix1 o)) ?_ ?_ ?_ r n
  · exact fun n k => (convBlk0 (V9 m) c t n k).trans (features m c x hx _ n k)
  · exact fun r k => (convBlk1 (V9 m) c t r k).trans (weights0 m c w hw r k)
  · exact fun r k => (convBlk2 (V9 m) c t r k).trans (weights1 m c w hw r k)
  · exact fun r => (convBlk3 (V9 m) c t r 0).trans (bias m c v hv r 0)

end Array

end Cert.KernelIdeal.Region

end
-- ==== Proof.KernelIdeal.GruArray.lean ====
/-
  The array the recurrent kernel leaves. The accumulator's eight contributions are one sum over nodes and features, the
  two running together along the input weights' rows; the last grid point's value is the whole result array.
-/
module

public import proofs.«01_k».proof.Proof.KernelIdeal.GruRegion
public import proofs.«01_k».proof.Proof.KernelIdeal.GruValue
public import proofs.«01_k».proof.Proof.KernelIdeal.ConvArray

@[expose] public section

set_option maxRecDepth 16384

noncomputable section

namespace Cert.KernelIdeal.Region

open Cert.KernelIdeal Cert.KernelIdeal.Gen
open Idealize.ShloMosaic Idealize.ShloMosaic.TcCoe
open Idealize.ShloMosaic.Pipeline (Dat)

theorem node_lt (p : Fin 8) (s : Fin 256) : p.val * 256 + s.val < 2048 := by omega

/-- A sum over blocks, features and nodes of a block is the sum over the rows of the input weights. -/
theorem sum_blocks (f : Fin 2048 → Fin 8 → EReal) :
    ∑ p : Fin 8, ∑ o : Fin 8, ∑ s : Fin 256, f ⟨p.val * 256 + s.val, node_lt p s⟩ o
      = ∑ k : Fin 16384, f ⟨k.val / 8, by omega⟩ ⟨k.val % 8, by omega⟩ := by
  refine Eq.trans (Finset.sum_congr rfl fun p _ => Finset.sum_comm) ?_
  refine (Fin.sum_mul_add_fin 8 256 (fun n : Fin 2048 => ∑ o : Fin 8, f n o)).trans ?_
  exact (Fin.sum_divmod_congr (A := 2048) (S := 8) (f := f) fun k _ _ => rfl).symm

section Blocks

variable (W : Dev nD → Valuation τ sig (Elt Ideal)) (c : Dev nD)

/-- Grid point `t` reads block `t` along the node axis; everything else is read whole. -/
theorem gru_place : ∀ t : Fin cfg1.N, win1_0.index t (0 : Fin 3) = 0 ∧ win1_0.index t (1 : Fin 3) = 0 ∧ win1_0.index t (2 : Fin 3) = t.val
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem gruBlk0 (t : Fin cfg1.N) (b : Fin 4) (r : Fin 64) (s : Fin 256) :
    (gruBlk W c 0 t : S4x64x256.Idx → EReal) (ix3 b r s)
      = (W c main_v42 : S4x64x2048.Idx → EReal) (ix3 b r ⟨t.val * 256 + s.val, node_lt ⟨t.val, lt_of_lt_of_eq t.isLt N_1⟩ s⟩) := by
  obtain ⟨p0, p1, p2, -⟩ := gru_place t
  refine congrArg (W c main_v42 : S4x64x2048.Idx → EReal) ?_
  funext a
  apply Fin.ext
  match a with
  | ⟨0, _⟩ => show win1_0.index t (0 : Fin 3) * 4 + 1 * b.val = b.val; omega
  | ⟨1, _⟩ => show win1_0.index t (1 : Fin 3) * 64 + 1 * r.val = r.val; omega
  | ⟨2, _⟩ => show win1_0.index t (2 : Fin 3) * 256 + 1 * s.val = t.val * 256 + s.val; omega

theorem gruBlk1 (t : Fin cfg1.N) (s : Fin 256) (o : Fin 8) (j : Fin 768) :
    (gruBlk W c 1 t : S256x8x768.Idx → EReal) (ix3 s o j)
      = (W c main_v43 : S2048x8x768.Idx → EReal) (ix3 ⟨t.val * 256 + s.val, node_lt ⟨t.val, lt_of_lt_of_eq t.isLt N_1⟩ s⟩ o j) := by
  obtain ⟨-, -, -, p0, p1, p2, -⟩ := gru_place t
  refine congrArg (W c main_v43 : S2048x8x768.Idx → EReal) ?_
  funext a
  apply Fin.ext
  match a with
  | ⟨0, _⟩ => show win1_1.index t (0 : Fin 3) * 256 + 1 * s.val = t.val * 256 + s.val; omega
  | ⟨1, _⟩ => show win1_1.index t (1 : Fin 3) * 8 + 1 * o.val = o.val; omega
  | ⟨2, _⟩ => show win1_1.index t (2 : Fin 3) * 768 + 1 * j.val = j.val; omega

theorem gruBlk2 (t : Fin cfg1.N) (r : Fin 1) (j : Fin 768) :
    (gruBlk W c 2 t : S1x768.Idx → EReal) (ix2 r j) = (W c main_v44 : S1x768.Idx → EReal) (ix2 r j) := by
  obtain ⟨-, -, -, -, -, -, p0, p1, -⟩ := gru_place t
  refine congrArg (W c main_v44 : S1x768.Idx → EReal) ?_
  funext a
  apply Fin.ext
  match a with
  | ⟨0, _⟩ => show win1_2.index t (0 : Fin 2) * 1 + 1 * r.val = r.val; omega
  | ⟨1, _⟩ => show win1_2.index t (1 : Fin 2) * 768 + 1 * j.val = j.val; omega

theorem gruBlk3 (t : Fin cfg1.N) (r : Fin 256) (j : Fin 768) :
    (gruBlk W c 3 t : S256x768.Idx → EReal) (ix2 r j) = (W c main_arg4 : S256x768.Idx → EReal) (ix2 r j) := by
  obtain ⟨-, -, -, -, -, -, -, -, p0, p1, -⟩ := gru_place t
  refine congrArg (W c main_arg4 : S256x768.Idx → EReal) ?_
  funext a
  apply Fin.ext
  match a with
  | ⟨0, _⟩ => show win1_3.index t (0 : Fin 2) * 256 + 1 * r.val = r.val; omega
  | ⟨1, _⟩ => show win1_3.index t (1 : Fin 2) * 768 + 1 * j.val = j.val; omega

theorem gruBlk4 (t : Fin cfg1.N) (r : Fin 1) (j : Fin 768) :
    (gruBlk W c 4 t : S1x768.Idx → EReal) (ix2 r j) = (W c main_v45 : S1x768.Idx → EReal) (ix2 r j) := by
  obtain ⟨-, -, -, -, -, -, -, -, -, -, p0, p1, -⟩ := gru_place t
  refine congrArg (W c main_v45 : S1x768.Idx → EReal) ?_
  funext a
  apply Fin.ext
  match a with
  | ⟨0, _⟩ => show win1_4.index t (0 : Fin 2) * 1 + 1 * r.val = r.val; omega
  | ⟨1, _⟩ => show win1_4.index t (1 : Fin 2) * 768 + 1 * j.val = j.val; omega

theorem gruBlk5 (t : Fin cfg1.N) (r : Fin 256) (j : Fin 128) :
    (gruBlk W c 5 t : S256x128.Idx → EReal) (ix2 r j) = (W c main_arg7 : S256x128.Idx → EReal) (ix2 r j) := by
  obtain ⟨-, -, -, -, -, -, -, -, -, -, -, -, p0, p1, -⟩ := gru_place t
  refine congrArg (W c main_arg7 : S256x128.Idx → EReal) ?_
  funext a
  apply Fin.ext
  match a with
  | ⟨0, _⟩ => show win1_5.index t (0 : Fin 2) * 256 + 1 * r.val = r.val; omega
  | ⟨1, _⟩ => show win1_5.index t (1 : Fin 2) * 128 + 1 * j.val = j.val; omega

theorem gruBlk6 (t : Fin cfg1.N) (r : Fin 1) (j : Fin 128) :
    (gruBlk W c 6 t : S1x128.Idx → EReal) (ix2 r j) = (W c main_v46 : S1x128.Idx → EReal) (ix2 r j) := by
  obtain ⟨-, -, -, -, -, -, -, -, -, -, -, -, -, -, p0, p1, -⟩ := gru_place t
  refine congrArg (W c main_v46 : S1x128.Idx → EReal) ?_
  funext a
  apply Fin.ext
  match a with
  | ⟨0, _⟩ => show win1_6.index t (0 : Fin 2) * 1 + 1 * r.val = r.val; omega
  | ⟨1, _⟩ => show win1_6.index t (1 : Fin 2) * 128 + 1 * j.val = j.val; omega

/-- The accumulator after grid point `n` is the sum of the contributions so far. -/
theorem accAt_apply (r : Fin 32) (j : Fin 768) (f : ℕ → EReal) (hf : ∀ t : Fin cfg1.N, part (gruBlk W c 0 t) (gruBlk W c 1 t) r j = f t.val) :
    ∀ (n : ℕ) (h : n < cfg1.N), accAt W c n h (ix2 r j) = ∑ p : Fin (n + 1), f p.val
  | 0, h => by
    rw [Fin.sum_univ_one]
    unfold accAt
    rw [accStep_blank]
    exact hf ⟨0, h⟩
  | n + 1, h => by
    rw [Fin.sum_univ_castSucc]
    unfold accAt
    rw [accStep_apply]
    exact congrArg₂ (fun a b : EReal => a + b) (accAt_apply r j f hf n (Nat.lt_of_succ_lt h)) (hf ⟨n + 1, h⟩)

/-- The output's block is the whole array. -/
theorem gru_out_place (t : Fin cfg1.N) (y : S4x128.Idx) : ((cfg1.win 7).blk t).view.emb y = y := by
  obtain ⟨-, -, -, -, -, -, -, -, -, -, -, -, -, -, -, -, p0, p1⟩ := gru_place t
  funext a
  apply Fin.ext
  match a with
  | ⟨0, _⟩ => show win1_7.index t (0 : Fin 2) * 4 + 1 * (y 0).val = (y 0).val; omega
  | ⟨1, _⟩ => show win1_7.index t (1 : Fin 2) * 128 + 1 * (y 1).val = (y 1).val; omega

theorem gru_covered (t : Fin cfg1.N) (b : Fin 4) (j : Fin 128) : (ix2 b j : S4x128.Idx) ∈ (win1_7.blk t).view.set := by
  have h := ((cfg1.win 7).blk t).view.emb_mem_set (ix2 b j : S4x128.Idx)
  rw [gru_out_place] at h
  exact h

/-- The result array holds what the last grid point computes. -/
theorem gru_array (G : Fin 4 → Fin 128 → EReal)
    (hG : ∀ (t : Fin cfg1.N), t.val = 7 → ∀ (b : Fin 4) (j : Fin 128),
      finish (accAt W c t.val t.isLt) (gruBlk W c 2 t) (gruBlk W c 3 t) (gruBlk W c 4 t) (gruBlk W c 5 t) (gruBlk W c 6 t) (ix2 b j) = G b j)
    (b : Fin 4) (j : Fin 128) :
    ((gruDat W c).arrAt 7 cfg1.N : S4x128.Idx → EReal) (ix2 b j) = G b j := by
  refine (gruDat W c).arrAt_apply_of_mem 7 (fun i : S4x128.Idx => G (i 0) (i 1)) ?_ cfg1.N ⟨7, lt_of_lt_of_eq (by decide) N_1.symm⟩ (ix2 b j)
    (Fin.isLt _) ((flush1_7 _).mpr rfl) (gru_covered _ b j)
  intro t hf
  have h8 : t.val < 8 := lt_of_lt_of_eq t.isLt N_1
  have h7 : t.val = 7 := by have := (flush1_7 t).mp hf; omega
  show (cfg1.win 7).cut (grid1.coords t) ((gruDat W c).after 7 t) = _
  rw [gru_after7]
  funext y
  show finish (accAt W c t.val t.isLt) (gruBlk W c 2 t) (gruBlk W c 3 t) (gruBlk W c 4 t) (gruBlk W c 5 t) (gruBlk W c 6 t) y
    = (fun i : S4x128.Idx => G (i 0) (i 1)) (((cfg1.win 7).blk t).view.emb y)
  rw [gru_out_place]
  obtain ⟨b, j, rfl⟩ : ∃ (b : Fin 4) (j : Fin 128), y = ix2 b j := ⟨y 0, y 1, eq_ix2 y⟩
  exact hG t h7 b j

section Total

variable (Y : Fin 4 → Fin 2048 → Fin 8 → Fin 8 → EReal) (wi : S16384x768.Idx → EReal)
  (hY : ∀ (b : Fin 4) (r : Fin 64) (n : Fin 2048), (W c main_v42 : S4x64x2048.Idx → EReal) (ix3 b r n)
    = Y b n ⟨r.val % 8, Spec.rem_lt r⟩ ⟨r.val / 8, Spec.quot_lt r⟩)
  (hwi : ∀ (n : Fin 2048) (o : Fin 8) (j : Fin 768), (W c main_v43 : S2048x8x768.Idx → EReal) (ix3 n o j) = wi (ix2 ⟨n.val * 8 + o.val, Spec.row_lt n o⟩ j))

include hY hwi

/-- What a grid point contributes to a step's row. -/
theorem gru_part (b : Fin 4) (s : ℕ) (hs : s < 8) (j : Fin 768) (t : Fin cfg1.N) :
    part (gruBlk W c 0 t) (gruBlk W c 1 t) ⟨b.val * 8 + s, by omega⟩ j
      = ∑ o : Fin 8, ∑ k : Fin 256, Y b ⟨t.val * 256 + k.val, node_lt ⟨t.val, lt_of_lt_of_eq t.isLt N_1⟩ k⟩ (Spec.time s) o
        * wi (ix2 ⟨(t.val * 256 + k.val) * 8 + o.val, by have := node_lt ⟨t.val, lt_of_lt_of_eq t.isLt N_1⟩ k; dsimp only at this; omega⟩ j) := by
  unfold part
  refine Finset.sum_congr rfl fun o _ => Finset.sum_congr rfl fun k _ => ?_
  refine congrArg₂ (fun a b : EReal => a * b) ((gruBlk0 W c t _ _ k).trans ((hY _ _ _).trans ?_)) ((gruBlk1 W c t k o j).trans (hwi _ o j))
  have h8 : (⟨(b.val * 8 + s) / 8, by omega⟩ : Fin 4) = b := Fin.ext (by show (b.val * 8 + s) / 8 = b.val; omega)
  have ht : (⟨(o.val * 8 + (b.val * 8 + s) % 8) % 8, by omega⟩ : Fin 8) = Spec.time s :=
    Fin.ext (by show (o.val * 8 + (b.val * 8 + s) % 8) % 8 = s % 8; omega)
  have ho : (⟨(o.val * 8 + (b.val * 8 + s) % 8) / 8, by omega⟩ : Fin 8) = o :=
    Fin.ext (by show (o.val * 8 + (b.val * 8 + s) % 8) / 8 = o.val; omega)
  have pick : ∀ {b b' : Fin 4} {t t' o o' : Fin 8} (n : Fin 2048), b' = b → t' = t → o' = o → Y b' n t' o' = Y b n t o := by
    rintro _ _ _ _ _ _ _ rfl rfl rfl
    rfl
  exact pick _ h8 ht ho

/-- The accumulator's row of a batch and a step, after the last grid point. -/
theorem gru_total (b : Fin 4) (s : ℕ) (hs : s < 8) (j : Fin 768) (t : Fin cfg1.N) (ht : t.val = 7) :
    accAt W c t.val t.isLt (ix2 ⟨b.val * 8 + s, by omega⟩ j)
      = ∑ k : Fin 16384, Y b ⟨k.val / 8, by omega⟩ (Spec.time s) ⟨k.val % 8, by omega⟩ * wi (ix2 k j) := by
  let f : Fin 2048 → Fin 8 → EReal := fun n o => Y b n (Spec.time s) o * wi (ix2 ⟨n.val * 8 + o.val, Spec.row_lt n o⟩ j)
  obtain ⟨n, hn⟩ := t
  obtain rfl : n = 7 := ht
  refine (accAt_apply W c ⟨b.val * 8 + s, by omega⟩ j (fun p => if h : p < 8 then ∑ o : Fin 8, ∑ k : Fin 256, f ⟨p * 256 + k.val, node_lt ⟨p, h⟩ k⟩ o else 0)
    ?_ 7 hn).trans ?_
  · intro t
    refine (gru_part W c Y wi hY hwi b s hs j t).trans ?_
    rw [dif_pos (lt_of_lt_of_eq t.isLt N_1)]
  · refine Eq.trans (Finset.sum_congr rfl fun p _ => dif_pos p.isLt) ?_
    refine (sum_blocks f).trans ?_
    refine Finset.sum_congr rfl fun k _ => ?_
    refine congrArg (fun i : Fin 16384 => Y b ⟨k.val / 8, by omega⟩ (Spec.time s) ⟨k.val % 8, by omega⟩ * wi (ix2 i j)) (Fin.ext ?_)
    show k.val / 8 * 8 + k.val % 8 = k.val
    omega

end Total

/-- The result array, from the arrays the kernel reads. -/
theorem gru_value (Y : Fin 4 → Fin 2048 → Fin 8 → Fin 8 → EReal) (wi : S16384x768.Idx → EReal) (bi : S768.Idx → EReal)
    (wh : S256x768.Idx → EReal) (bh : S768.Idx → EReal) (wf : S256x128.Idx → EReal) (bf : S128.Idx → EReal)
    (hY : ∀ (b : Fin 4) (r : Fin 64) (n : Fin 2048), (W c main_v42 : S4x64x2048.Idx → EReal) (ix3 b r n)
      = Y b n ⟨r.val % 8, Spec.rem_lt r⟩ ⟨r.val / 8, Spec.quot_lt r⟩)
    (hwi : ∀ (n : Fin 2048) (o : Fin 8) (j : Fin 768), (W c main_v43 : S2048x8x768.Idx → EReal) (ix3 n o j) = wi (ix2 ⟨n.val * 8 + o.val, Spec.row_lt n o⟩ j))
    (hbi : ∀ j, (W c main_v44 : S1x768.Idx → EReal) (ix2 0 j) = bi (ix1 j))
    (hwh : ∀ i j, (W c main_arg4 : S256x768.Idx → EReal) (ix2 i j) = wh (ix2 i j))
    (hbh : ∀ j, (W c main_v45 : S1x768.Idx → EReal) (ix2 0 j) = bh (ix1 j))
    (hwf : ∀ i j, (W c main_arg7 : S256x128.Idx → EReal) (ix2 i j) = wf (ix2 i j))
    (hbf : ∀ j, (W c main_v46 : S1x128.Idx → EReal) (ix2 0 j) = bf (ix1 j))
    (b : Fin 4) (j : Fin 128) :
    ((gruDat W c).arrAt 7 cfg1.N : S4x128.Idx → EReal) (ix2 b j)
      = Spec.network Y (fun k j => wi (ix2 k j)) (fun j => bi (ix1 j)) (fun i j => wh (ix2 i j)) (fun j => bh (ix1 j))
        (fun i j => wf (ix2 i j)) (fun j => bf (ix1 j)) b j := by
  refine gru_array W c _ ?_ b j
  intro t ht b j
  unfold Spec.network
  refine finish_spec (accAt W c t.val t.isLt) (gruBlk W c 2 t) (gruBlk W c 3 t) (gruBlk W c 4 t)
    (fun t b j => Spec.project (fun n o => Y b n (Spec.time t) o) (fun k j => wi (ix2 k j)) (fun j => bi (ix1 j)) j) ?_ (gruBlk W c 5 t) (gruBlk W c 6 t)
    _ _ _ _ (fun i j => (gruBlk3 W c t i j).trans (hwh i j)) (fun j => (gruBlk4 W c t 0 j).trans (hbh j))
    (fun i j => (gruBlk5 W c t i j).trans (hwf i j)) (fun j => (gruBlk6 W c t 0 j).trans (hbf j)) b j
  intro s hs b j
  unfold Spec.project
  refine congrArg₂ (fun a b : EReal => a + b) ?_ ((gruBlk2 W c t 0 j).trans (hbi j))
  exact gru_total W c Y wi hY hwi b s hs j t ht

end Blocks

end Cert.KernelIdeal.Region

end
-- ==== Proof.KernelIdeal.Value.lean ====
/-
  The kernel's result array, from its nine arguments: the network of the mathematics over the convolution of the
  mathematics, where the middle time step's features are finite.
-/
module

public import proofs.«01_k».proof.Proof.KernelIdeal.GruArray

@[expose] public section

set_option maxRecDepth 16384

noncomputable section

namespace Cert.KernelIdeal.Region

open Cert.KernelIdeal Cert.KernelIdeal.Gen
open Idealize.ShloMosaic Idealize.ShloMosaic.TcCoe

section Between

variable (V : Valuation τ sig (Elt Ideal))

/-- The input weights with node and feature on axes of their own. -/
theorem split43 (wi : S16384x768.Idx → EReal) (h : (V main_arg3 : S16384x768.Idx → EReal) = wi) (n : Fin 2048) (o : Fin 8) (j : Fin 768) :
    (StableHlo.after hostOps1 V main_v43 : S2048x8x768.Idx → EReal) (ix3 n o j) = wi (ix2 ⟨n.val * 8 + o.val, Spec.row_lt n o⟩ j) := by
  after_reads_simp
  rw [h]
  pointwise []

theorem row44 (v : S768.Idx → EReal) (h : (V main_arg5 : S768.Idx → EReal) = v) (j : Fin 768) :
    (StableHlo.after hostOps1 V main_v44 : S1x768.Idx → EReal) (ix2 0 j) = v (ix1 j) := by
  after_reads_simp
  rw [h]
  pointwise []

theorem row45 (v : S768.Idx → EReal) (h : (V main_arg6 : S768.Idx → EReal) = v) (j : Fin 768) :
    (StableHlo.after hostOps1 V main_v45 : S1x768.Idx → EReal) (ix2 0 j) = v (ix1 j) := by
  after_reads_simp
  rw [h]
  pointwise []

theorem row46 (v : S128.Idx → EReal) (h : (V main_arg8 : S128.Idx → EReal) = v) (j : Fin 128) :
    (StableHlo.after hostOps1 V main_v46 : S1x128.Idx → EReal) (ix2 0 j) = v (ix1 j) := by
  after_reads_simp
  rw [h]
  pointwise []

end Between

variable (m : (ℓ : Loc nD τ sig) → Buf (Elt Ideal) ℓ) (c : Dev nD)

/-- What the second kernel finds in the convolution's array. -/
theorem held42 : (V11 m (outs₁ m) c main_v42 : S4x64x2048.Idx → EReal) = (convDat (V9 m) c).arrAt 4 cfg0.N :=
  (V11_of m (outs₁ m) c main_v42 (by decide)).trans ((Function.update_self _ _ _).trans
    (Pipeline.afterRegion_arr (convDat (V9 m) c) (V9 m c) launch0.win.arr_inj 4))

/-- An argument is what it was at the start, when the second kernel's set-up reads it. -/
theorem kept10 (r : Ref sig .tc) (h : r ∉ hostOps0_W ∧ r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps0_8_W ∧ r ∉ ([main_v42] : List (Ref sig .tc))) : V10 m (outs₁ m) c r = V0 m c r :=
  (V10_of m (outs₁ m) c r h.2.2.2.2.2.2.2.2.2).trans ((V9_of m c r h.2.2.2.2.2.2.2.2.1).trans ((V8_of m c r h.2.2.2.2.2.2.2.1).trans
    ((V7_of m c r h.2.2.2.2.2.2.1).trans ((V6_of m c r h.2.2.2.2.2.1).trans ((V5_of m c r h.2.2.2.2.1).trans ((V4_of m c r h.2.2.2.1).trans
    ((V3_of m c r h.2.2.1).trans ((V2_of m c r h.2.1).trans (V1_of m c r h.1)))))))))

/-- The result array, entry by entry, from the arguments. -/
theorem kernel_value
    (x : S4x8x2048x8.Idx → EReal) (hx : (V0 m c main_arg0 : S4x8x2048x8.Idx → EReal) = x)
    (w : S2x8x8.Idx → EReal) (hw : (V0 m c main_arg1 : S2x8x8.Idx → EReal) = w)
    (v : S8.Idx → EReal) (hv : (V0 m c main_arg2 : S8.Idx → EReal) = v)
    (wi : S16384x768.Idx → EReal) (hwi : (V0 m c main_arg3 : S16384x768.Idx → EReal) = wi)
    (wh : S256x768.Idx → EReal) (hwh : (V0 m c main_arg4 : S256x768.Idx → EReal) = wh)
    (bi : S768.Idx → EReal) (hbi : (V0 m c main_arg5 : S768.Idx → EReal) = bi)
    (bh : S768.Idx → EReal) (hbh : (V0 m c main_arg6 : S768.Idx → EReal) = bh)
    (wf : S256x128.Idx → EReal) (hwf : (V0 m c main_arg7 : S256x128.Idx → EReal) = wf)
    (bf : S128.Idx → EReal) (hbf : (V0 m c main_arg8 : S128.Idx → EReal) = bf)
    (a : Fin 4 → Fin 2048 → Fin 8 → ℝ) (ha : ∀ b n f, x (ix4 b 4 n f) = (a b n f : EReal))
    (b : Fin 4) (j : Fin 128) :
    (V12 m (outs m) c main_v47 : S4x128.Idx → EReal) (ix2 b j) = Spec.answer x w v wi wh bi bh wf bf b j := by
  have e : (V12 m (outs m) c main_v47 : S4x128.Idx → EReal) = (gruDat (V11 m (outs₁ m)) c).arrAt 7 cfg1.N :=
    (Function.update_self _ _ _).trans (Pipeline.afterRegion_arr (gruDat (V11 m (outs₁ m)) c) (V11 m (outs₁ m) c) launch1.win.arr_inj 7)
  refine (congrFun e _).trans ?_
  refine gru_value (V11 m (outs₁ m)) c
    (fun b n t o => Spec.conv (Spec.nodes x b) (fun f o => w (ix3 0 f o)) (fun f o => w (ix3 1 f o)) (fun o => v (ix1 o)) n t o)
    wi bi wh bh wf bf ?_ ?_ ?_ ?_ ?_ ?_ ?_ b j
  · exact fun b r n => (congrFun (held42 m c) _).trans (conv_value m c x hx w hw v hv a ha b r n)
  · exact split43 (V10 m (outs₁ m) c) wi ((kept10 m c main_arg3 (by decide)).trans hwi)
  · exact row44 (V10 m (outs₁ m) c) bi ((kept10 m c main_arg5 (by decide)).trans hbi)
  · exact fun i j => congrFun ((V11_of m (outs₁ m) c main_arg4 (by decide)).trans ((kept10 m c main_arg4 (by decide)).trans hwh)) _
  · exact row45 (V10 m (outs₁ m) c) bh ((kept10 m c main_arg6 (by decide)).trans hbh)
  · exact fun i j => congrFun ((V11_of m (outs₁ m) c main_arg7 (by decide)).trans ((kept10 m c main_arg7 (by decide)).trans hwf)) _
  · exact row46 (V10 m (outs₁ m) c) bf ((kept10 m c main_arg8 (by decide)).trans hbf)

end Cert.KernelIdeal.Region

end
-- ==== Proof.ReferenceIdeal.Conv.lean ====
/-
  The reference's convolution: its host operations, named stage by stage and read at an index, are the convolution of the
  mathematics.
-/
module

public import proofs.«01_k».proof.Proof.Gen.ReferenceIdeal.Run
public import proofs.«01_k».proof.Proof.Spec
public import Idealize.ShloMosaic.Lib.Pointwise
public import Idealize.ShloMosaic.Lib.StableHlo.RunRead

@[expose] public section

set_option maxRecDepth 16384

noncomputable section

namespace Cert.ReferenceIdeal.Stages

open Cert.ReferenceIdeal Cert.ReferenceIdeal.Gen
open Idealize.ShloMosaic Idealize.ShloMosaic.TcCoe

variable (x : FVec Ideal S4x8x2048x8 .f32) (w : FVec Ideal S2x8x8 .f32) (v : FVec Ideal S8 .f32)

/-- The middle time step's features. -/
def middle : FVec Ideal S4x2048x8 .f32 :=
  shapeCast S4x2048x8 (extractStridedSlice S4x1x2048x8 ![0, 4, 0, 0] x slices_S4x8x2048x8_S4x1x2048x8_0_4_0_0) shapeCasts_S4x1x2048x8_S4x2048x8

/-- The squared lengths. -/
def lengths : FVec Ideal S4x2048 .f32 :=
  Host.reduceAdd (mulf (middle x) (middle x)) (constant S_ .f32 0x00000000#32) reducesTo_S4x2048x8_S4x2048_d2 h_S_

/-- A value per node along the rows, and along the columns, of a matrix over nodes. -/
def alongRows (s : FVec Ideal S4x2048 .f32) : FVec Ideal S4x2048x2048 .f32 :=
  broadcastInDim S4x2048x2048 ![0, 1, 2] bcast_S4x2048x1_S4x2048x2048_0_1_2 (broadcastInDim S4x2048x1 ![0, 1] bcast_S4x2048_S4x2048x1_0_1 s)
def alongColumns (s : FVec Ideal S4x2048 .f32) : FVec Ideal S4x2048x2048 .f32 :=
  broadcastInDim S4x2048x2048 ![0, 1, 2] bcast_S4x1x2048_S4x2048x2048_0_1_2 (broadcastInDim S4x1x2048 ![0, 2] bcast_S4x2048_S4x1x2048_0_2 s)

/-- The squared distances. -/
def distances : FVec Ideal S4x2048x2048 .f32 :=
  maximumf (subf (addf (alongRows (lengths x)) (alongColumns (lengths x)))
      (mulf (broadcastInDim S4x2048x2048 ![] bcast_S_S4x2048x2048 (constant S_ .f32 0x40000000#32))
        (Host.dotGeneral dot_S4x2048x8_S4x2048x8_S4x2048x2048_2_2_1_1_0_0 none (middle x) (middle x))))
    (broadcastInDim S4x2048x2048 ![] bcast_S_S4x2048x2048 (constant S_ .f32 0x00000000#32))

/-- The adjacencies. -/
def adjacencies : FVec Ideal S4x2048x2048 .f32 :=
  Host.exp (Host.divf (Host.negf (distances x)) (broadcastInDim S4x2048x2048 ![] bcast_S_S4x2048x2048 (constant S_ .f32 0x3F800000#32)))

/-- One over the roots of the degrees. -/
def scales : FVec Ideal S4x2048 .f32 :=
  Host.divf (broadcastInDim S4x2048 ![] bcast_S_S4x2048 (constant S_ .f32 0x3F800000#32))
    (Host.sqrt (addf (Host.reduceAdd (adjacencies x) (constant S_ .f32 0x00000000#32) reducesTo_S4x2048x2048_S4x2048_d2 h_S_)
      (broadcastInDim S4x2048 ![] bcast_S_S4x2048 (constant S_ .f32 0x358637BD#32))))

/-- The normalised adjacencies. -/
def normalised : FVec Ideal S4x2048x2048 .f32 :=
  mulf (mulf (alongRows (scales x)) (adjacencies x)) (alongColumns (scales x))

/-- The smoothed features. -/
def smoothed : FVec Ideal S4x8x2048x8 .f32 :=
  transpose S4x8x2048x8 [0, 1, 3, 2] (Host.dotGeneral dot_S4x8x2048x8_S4x2048x2048_S4x8x8x2048_2_2_13_1_0_0 none x (normalised x))
    transposes_S4x8x8x2048_S4x8x2048x8_0_1_3_2

/-- The convolution before the rectifier. -/
def mixed : FVec Ideal S4x8x2048x8 .f32 :=
  addf (addf
      (Host.dotGeneral dot_S4x8x2048x8_S8x8_S4x8x2048x8_3_0_012_1_n_n none x
        (shapeCast S8x8 (extractStridedSlice S1x8x8 ![0, 0, 0] w slices_S2x8x8_S1x8x8_0_0_0) shapeCasts_S1x8x8_S8x8))
      (Host.dotGeneral dot_S4x8x2048x8_S8x8_S4x8x2048x8_3_0_012_1_n_n none (smoothed x)
        (shapeCast S8x8 (extractStridedSlice S1x8x8 ![1, 0, 0] w slices_S2x8x8_S1x8x8_1_0_0) shapeCasts_S1x8x8_S8x8)))
    (broadcastInDim S4x8x2048x8 ![0, 1, 2, 3] bcast_S1x1x1x8_S4x8x2048x8_0_1_2_3 (broadcastInDim S1x1x1x8 ![3] bcast_S8_S1x1x1x8_3 v))

theorem middle_apply (b : Fin 4) (n : Fin 2048) (f : Fin 8) : middle x (ix3 b n f) = Spec.nodes x b n 4 f := by
  unfold Spec.nodes
  pointwise [middle]

theorem lengths_apply (b : Fin 4) (n : Fin 2048) : lengths x (ix2 b n) = Spec.sq (Spec.nodes x b) n := by
  unfold Spec.sq
  simp only [← middle_apply]
  pointwise [lengths]

theorem alongRows_apply (s : FVec Ideal S4x2048 .f32) (b : Fin 4) (n k : Fin 2048) : alongRows s (ix3 b n k) = s (ix2 b n) := by
  pointwise [alongRows]
theorem alongColumns_apply (s : FVec Ideal S4x2048 .f32) (b : Fin 4) (n k : Fin 2048) : alongColumns s (ix3 b n k) = s (ix2 b k) := by
  pointwise [alongColumns]

theorem distances_apply (b : Fin 4) (n k : Fin 2048) : distances x (ix3 b n k) = Spec.dist (Spec.nodes x b) n k := by
  unfold Spec.dist
  simp only [← middle_apply, ← lengths_apply]
  rw [← alongRows_apply (lengths x) b n k, ← alongColumns_apply (lengths x) b n k]
  pointwise [distances]

theorem adjacencies_apply (b : Fin 4) (n k : Fin 2048) : adjacencies x (ix3 b n k) = Spec.adj (Spec.nodes x b) n k := by
  unfold Spec.adj
  rw [← distances_apply]
  pointwise [adjacencies]

theorem scales_apply (b : Fin 4) (n : Fin 2048) : scales x (ix2 b n) = Spec.scale (Spec.nodes x b) n := by
  unfold Spec.scale Spec.tiny
  simp only [← adjacencies_apply]
  pointwise [scales]

theorem normalised_apply (b : Fin 4) (n k : Fin 2048) : normalised x (ix3 b n k)
    = Spec.scale (Spec.nodes x b) n * Spec.adj (Spec.nodes x b) n k * Spec.scale (Spec.nodes x b) k := by
  simp only [← adjacencies_apply, ← scales_apply]
  rw [← alongRows_apply (scales x) b n k, ← alongColumns_apply (scales x) b n k]
  pointwise [normalised]

theorem smoothed_apply (b : Fin 4) (t : Fin 8) (n : Fin 2048) (f : Fin 8) : smoothed x (ix4 b t n f) = Spec.smooth (Spec.nodes x b) n t f := by
  unfold Spec.smooth
  simp only [← normalised_apply]
  unfold Spec.nodes
  pointwise [smoothed]

theorem mixed_apply (b : Fin 4) (t : Fin 8) (n : Fin 2048) (o : Fin 8) : max (mixed x w v (ix4 b t n o)) 0
    = Spec.conv (Spec.nodes x b) (fun f o => w (ix3 0 f o)) (fun f o => w (ix3 1 f o)) (fun o => v (ix1 o)) n t o := by
  unfold Spec.conv
  simp only [← smoothed_apply]
  unfold Spec.nodes
  pointwise [mixed]

/-- The first stretch of host operations leaves the convolution before the rectifier. -/
theorem mixed_run (V : Valuation τ sig (Elt Ideal)) : (StableHlo.after hostOps0 V main_v42 : S4x8x2048x8.Idx → EReal)
    = mixed (V main_arg0) (V main_arg1) (V main_arg2) := by
  after_reads_simp
  rfl

end Cert.ReferenceIdeal.Stages

end
-- ==== Proof.ReferenceIdeal.Gru.lean ====
/-
  The reference's recurrence: what the loop starts from, what each trip does to the hidden state, and the answer after
  eight trips.
-/
module

public import proofs.«01_k».proof.Proof.ReferenceIdeal.Conv

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.StableHlo Idealize.ShloMosaic.TcCoe

/-- The sequence the loop reads: time step first, node and feature run together. -/
def sequence (y : FVec Ideal S4x8x2048x8 .f32) : FVec Ideal S8x4x16384 .f32 :=
  transpose S8x4x16384 [1, 0, 2] (shapeCast S4x8x16384
    (maximumf y (broadcastInDim S4x8x2048x8 ![] bcast_S_S4x8x2048x8 (constant S_ .f32 0x00000000#32))) shapeCasts_S4x8x2048x8_S4x8x16384)
    transposes_S4x8x16384_S8x4x16384_1_0_2

theorem sequence_apply (y : FVec Ideal S4x8x2048x8 .f32) (t : Fin 8) (b : Fin 4) (k : Fin 16384) :
    sequence y (ix3 t b k) = max (y (ix4 b t ⟨k.val / 8, by omega⟩ ⟨k.val % 8, by omega⟩)) 0 := by
  pointwise [sequence]

section Entry

variable (V : Valuation τ sig (Elt Ideal))

theorem rectified_run : (StableHlo.after hostOps0_1 V main_v43 : S4x8x2048x8.Idx → EReal)
    = maximumf (F := Ideal) (φ := .f32) (V main_v42) (broadcastInDim S4x8x2048x8 ![] bcast_S_S4x8x2048x8 (constant S_ .f32 0x00000000#32)) := by
  after_reads_simp
  simp only [StableHlo.TRef.ofBuf_toBuf]
  rfl

theorem sequence_run : (StableHlo.after hostOps0_2 V main_v48_0 : S8x4x16384.Idx → EReal)
    = transpose S8x4x16384 [1, 0, 2] (shapeCast S4x8x16384 (V main_v43 : S4x8x2048x8.Idx → EReal) shapeCasts_S4x8x2048x8_S4x8x16384)
        transposes_S4x8x16384_S8x4x16384_1_0_2 := by
  after_reads_simp
  rfl

end Entry

variable (m : (ℓ : Loc nD τ sig) → Buf (Elt Ideal) ℓ) (c : Dev nD)

theorem entry_sequence : (entryContents preI m c main_v48_0 : S8x4x16384.Idx → EReal)
    = sequence (mixed (launchContents m c main_arg0) (launchContents m c main_arg1) (launchContents m c main_arg2)) := by
  simp only [entryContents, afterL_cons, afterL_nil]
  unfold sequence
  rw [sequence_run, rectified_run, mixed_run]

theorem entry_wi : entryContents preI m c main_v48_1 = launchContents m c main_arg3 := by
  simp only [entryContents, afterL_cons, afterL_nil]
  after_reads_simp
  rfl
theorem entry_bi : entryContents preI m c main_v48_2 = launchContents m c main_arg5 := by
  simp only [entryContents, afterL_cons, afterL_nil]
  after_reads_simp
  rfl
theorem entry_wh : entryContents preI m c main_v48_3 = launchContents m c main_arg4 := by
  simp only [entryContents, afterL_cons, afterL_nil]
  after_reads_simp
  rfl
theorem entry_bh : entryContents preI m c main_v48_4 = launchContents m c main_arg6 := by
  simp only [entryContents, afterL_cons, afterL_nil]
  after_reads_simp
  rfl
theorem entry_hidden (b : Fin 4) (j : Fin 256) : (entryContents preI m c main_v48_6 : S4x256.Idx → EReal) (ix2 b j) = (0 : EReal) := by
  simp only [entryContents, afterL_cons, afterL_nil]
  after_reads_simp
  pointwise [id]

/-- Where trip `t` reads the sequence: its own time step, whole. -/
theorem start_eq (t : Fin 8) :
    let s : Fin 3 → ℕ := Host.clampedStart S8x4x16384 S1x4x16384 rfl
      (fun k => ((![fun _ => BitVec.ofNat 32 t.val, constantI S_ 32 0#32, constantI S_ 32 0#32] : Fin 3 → IVec S_ 32) k (Shape.Idx.first h_S_)).toInt)
    s 0 = t.val ∧ s 1 = 0 ∧ s 2 = 0 := by
  fin_cases t <;> exact ⟨rfl, rfl, rfl⟩

/-- Places with the same coordinates are the same. -/
theorem entry_ext {t t' : Fin 8} {b b' : Fin 4} {k k' : Fin 16384} (ht : t.val = t'.val) (hb : b.val = b'.val) (hk : k.val = k'.val) :
    (ix3 t b k : S8x4x16384.Idx) = ix3 t' b' k' := by
  rw [Fin.ext ht, Fin.ext hb, Fin.ext hk]

/-- One trip's new hidden state, entry by entry, from what the loop carries. -/
theorem trip_apply (V : Valuation τ sig (Elt Ideal)) (t : Fin 8) (ht : V main_v48_5 = fun _ => BitVec.ofNat 32 t.val)
    (y : Spec.Array3 8 4 16384) (hy : (V main_v48_0 : S8x4x16384.Idx → EReal) = y)
    (wi : Spec.Array2 16384 768) (hwi : (V main_v48_1 : S16384x768.Idx → EReal) = wi)
    (bi : Spec.Array1 768) (hbi : (V main_v48_2 : S768.Idx → EReal) = bi)
    (wh : Spec.Array2 256 768) (hwh : (V main_v48_3 : S256x768.Idx → EReal) = wh)
    (bh : Spec.Array1 768) (hbh : (V main_v48_4 : S768.Idx → EReal) = bh)
    (h : Spec.Array2 4 256) (hh : (V main_v48_6 : S4x256.Idx → EReal) = h) (b : Fin 4) (j : Fin 256) :
    (res_main_while0b_v89 V : S4x256.Idx → EReal) (ix2 b j)
      = Spec.cell (fun i j => wh (ix2 i j)) (fun j => bh (ix1 j))
          (fun b j => ∑ k : Fin 16384, y (ix3 t b k) * wi (ix2 k j) + bi (ix1 j)) (fun b j => h (ix2 b j)) b j := by
  have g (b : Fin 4) (j : Fin 768) : (res_main_while0b_v57 V : S4x768.Idx → EReal) (ix2 b j)
      = ∑ k : Fin 16384, y (ix3 t b k) * wi (ix2 k j) + bi (ix1 j) := by
    unfold res_main_while0b_v57
    rw [hy, hwi, hbi, ht]
    pointwise []
    refine congrArg (fun a : EReal => a + bi (ix1 j)) (Finset.sum_congr rfl fun k _ => congrArg (fun a : EReal => a * wi (ix2 k j)) ?_)
    obtain ⟨e0, e1, e2⟩ := start_eq t
    exact congrArg y (entry_ext e0 ((congrArg (fun a : ℕ => a + b.val) e1).trans (Nat.zero_add _))
      ((congrArg (fun a : ℕ => a + k.val) e2).trans (Nat.zero_add _)))
  have u (b : Fin 4) (j : Fin 768) : (res_main_while0b_v61 V : S4x768.Idx → EReal) (ix2 b j)
      = Spec.inner (fun i j => wh (ix2 i j)) (fun j => bh (ix1 j)) (fun b j => h (ix2 b j)) b j := by
    unfold Spec.inner
    unfold res_main_while0b_v61
    rw [hwh, hbh, hh]
    pointwise []
  unfold Spec.cell
  simp only [← g, ← u]
  unfold res_main_while0b_v89 res_main_while0b_v81
  rw [hh]
  generalize res_main_while0b_v57 V = p
  generalize res_main_while0b_v61 V = q
  pointwise []
  rfl

/-- The hidden state after `k` trips, at `b`, `j`; the other carried buffers keep their entry contents and the counter counts. -/
theorem loop_apply (y : Spec.Array3 8 4 16384) (hy : (entryContents preI m c main_v48_0 : S8x4x16384.Idx → EReal) = y)
    (wi : Spec.Array2 16384 768) (hwi : (entryContents preI m c main_v48_1 : S16384x768.Idx → EReal) = wi)
    (bi : Spec.Array1 768) (hbi : (entryContents preI m c main_v48_2 : S768.Idx → EReal) = bi)
    (wh : Spec.Array2 256 768) (hwh : (entryContents preI m c main_v48_3 : S256x768.Idx → EReal) = wh)
    (bh : Spec.Array1 768) (hbh : (entryContents preI m c main_v48_4 : S768.Idx → EReal) = bh) (k : ℕ) (hk : k ≤ 8) :
    let V := STEP^[k] (entryContents preI m c)
    (V main_v48_0 : S8x4x16384.Idx → EReal) = y ∧ (V main_v48_1 : S16384x768.Idx → EReal) = wi ∧ (V main_v48_2 : S768.Idx → EReal) = bi
      ∧ (V main_v48_3 : S256x768.Idx → EReal) = wh ∧ (V main_v48_4 : S768.Idx → EReal) = bh ∧ (V main_v48_5 = fun _ => BitVec.ofNat 32 k)
      ∧ ∀ b j, (V main_v48_6 : S4x256.Idx → EReal) (ix2 b j) = Spec.hidden (fun i j => wh (ix2 i j)) (fun j => bh (ix1 j))
          (fun t b j => ∑ k : Fin 16384, y (ix3 (Spec.time t) b k) * wi (ix2 k j) + bi (ix1 j)) k b j := by
  induction k with
  | zero => exact ⟨hy, hwi, hbi, hwh, hbh, ctr_entry m c, fun b j => entry_hidden m c b j⟩
  | succ k ih =>
    obtain ⟨a0, a1, a2, a3, a4, a5, a6⟩ := ih (by omega)
    rw [Function.iterate_succ_apply']
    generalize STEP^[k] (entryContents preI m c) = V at a0 a1 a2 a3 a4 a5 a6 ⊢
    have ht : Spec.time k = ⟨k, by omega⟩ := Fin.ext (Nat.mod_eq_of_lt (by omega))
    refine ⟨(STEP_main_v48_0 V).trans a0, (STEP_main_v48_1 V).trans a1, (STEP_main_v48_2 V).trans a2, (STEP_main_v48_3 V).trans a3,
      (STEP_main_v48_4 V).trans a4, ?_, fun b j => ?_⟩
    · rw [STEP_main_v48_5]
      unfold step_main_v48_5
      rw [a5]
      exact funext fun _ => (BitVec.ofNat_add k 1).symm
    · rw [STEP_main_v48_6]
      unfold step_main_v48_6
      refine (trip_apply V (Spec.time k) (by rw [ht]; exact a5) y a0 wi a1 bi a2 wh a3 bh a4 (V main_v48_6) rfl b j).trans ?_
      unfold Spec.hidden
      exact congrArg (fun h => Spec.cell _ _ _ h b j) (funext fun b => funext fun j => a6 b j)

/-- The last operations: the head of the hidden state. -/
theorem out_apply (V : Valuation τ sig (Elt Ideal)) (wf : Spec.Array2 256 128) (hwf : (V main_arg7 : S256x128.Idx → EReal) = wf)
    (bf : Spec.Array1 128) (hbf : (V main_arg8 : S128.Idx → EReal) = bf) (h : Spec.Array2 4 256) (hh : (V main_v48_6 : S4x256.Idx → EReal) = h)
    (b : Fin 4) (j : Fin 128) : (out_main_v52 V : S4x128.Idx → EReal) (ix2 b j)
      = Spec.head (fun i j => wf (ix2 i j)) (fun j => bf (ix1 j)) (fun b j => h (ix2 b j)) b j := by
  unfold Spec.head
  unfold out_main_v52
  rw [hwf, hbf, hh]
  pointwise []

/-- The reference's result is the answer of the mathematics, whatever its arguments hold. -/
theorem reference_value (x : Spec.Array4 4 8 2048 8) (hx : (launchContents m c main_arg0 : S4x8x2048x8.Idx → EReal) = x)
    (w : Spec.Array3 2 8 8) (hw : (launchContents m c main_arg1 : S2x8x8.Idx → EReal) = w)
    (v : Spec.Array1 8) (hv : (launchContents m c main_arg2 : S8.Idx → EReal) = v)
    (wi : Spec.Array2 16384 768) (hwi : (launchContents m c main_arg3 : S16384x768.Idx → EReal) = wi)
    (wh : Spec.Array2 256 768) (hwh : (launchContents m c main_arg4 : S256x768.Idx → EReal) = wh)
    (bi : Spec.Array1 768) (hbi : (launchContents m c main_arg5 : S768.Idx → EReal) = bi)
    (bh : Spec.Array1 768) (hbh : (launchContents m c main_arg6 : S768.Idx → EReal) = bh)
    (wf : Spec.Array2 256 128) (hwf : (launchContents m c main_arg7 : S256x128.Idx → EReal) = wf)
    (bf : Spec.Array1 128) (hbf : (launchContents m c main_arg8 : S128.Idx → EReal) = bf) (b : Fin 4) (j : Fin 128) :
    (out_main_v52 (STEP^[8] (entryContents preI m c)) : S4x128.Idx → EReal) (ix2 b j) = Spec.answer x w v wi wh bi bh wf bf b j := by
  obtain ⟨-, -, -, -, -, -, e⟩ := loop_apply m c _ (entry_sequence m c) wi ((entry_wi m c).trans hwi) bi ((entry_bi m c).trans hbi)
    wh ((entry_wh m c).trans hwh) bh ((entry_bh m c).trans hbh) 8 le_rfl
  rw [hx, hw, hv] at e
  refine (out_apply (STEP^[8] (entryContents preI m c)) wf ((iter_main_arg7 m c 8).trans hwf) bf ((iter_main_arg8 m c 8).trans hbf) _ rfl b j).trans ?_
  unfold Spec.answer Spec.network Spec.project
  simp only [← mixed_apply, ← sequence_apply]
  refine congrArg (fun h => Spec.head _ _ h b j) (funext fun b => funext fun j => (e b j).trans ?_)
  simp only [sequence_apply]

end Cert.ReferenceIdeal.Stages

end
-- ==== Proof.Algebraic.lean ====
/-
  The value claim: where the middle features are real numbers, the idealized kernel and the idealized reference end
  with the same result, the answer of the mathematics.
-/
module

public import proofs.«01_k».proof.Defs
public import proofs.«01_k».proof.Proof.Precondition
public import proofs.«01_k».proof.Proof.KernelIdeal.Final
public import proofs.«01_k».proof.Proof.KernelIdeal.Value
public import proofs.«01_k».proof.Proof.ReferenceIdeal.Gru

@[expose] public section

noncomputable section

namespace Cert.Algebraic

open Idealize.ShloMosaic Idealize.ShloMosaic.TcCoe Idealize.ShloMosaic.StableHlo Idealize.SL.Sem

/-- Both results are the answer of the same arrays. -/
theorem same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : Cert.Pre_KernelIdeal_mid_finite m) (c : Dev KernelIdeal.nD)
    (e : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)) :
    (ReferenceIdeal.Value.out_main_v52 (ReferenceIdeal.Value.STEP^[8] (entryContents ReferenceIdeal.Value.preI m' c)) : Spec.Array2 4 128)
      = KernelIdeal.Gen.V12 m (KernelIdeal.Region.outs m) c KernelIdeal.main_v47 := by
  obtain ⟨e0, e1, e2, e3, e4, e5, e6, e7, e8⟩ := e
  choose a ha using fun (b : Fin 4) (n : Fin 2048) (f : Fin 8) => Pre_mid_finite.real_of_holds _ _ _ _ _ _ _ _ _ (h c) b n f
  funext y
  rw [eq_ix2 y]
  exact (ReferenceIdeal.Stages.reference_value m' c _ e0 _ e1 _ e2 _ e3 _ e4 _ e5 _ e6 _ e7 _ e8 _ _).trans
    (KernelIdeal.Region.kernel_value m c _ rfl _ rfl _ rfl _ rfl _ rfl _ rfl _ rfl _ rfl _ rfl a ha _ _).symm

theorem kernel_reference : Cert.algebraic_KernelIdeal_ReferenceIdeal_pre_mid_finite := fun m ρ m' ρ' h e =>
  ⟨fun c => KernelIdeal.Gen.V12 m (KernelIdeal.Region.outs m) c KernelIdeal.main_v47,
    (θ_run KernelIdeal.defs _ _).mono (fun _ r => r.1) (KernelIdeal.Region.final (F := Ideal) m ρ),
    (θ_run ReferenceIdeal.defs _ _).mono (fun _ r c => ⟨(r c).1.trans (same m m' h c (e c)), (r c).2⟩)
      (ReferenceIdeal.Value.run (F := Ideal) m' ρ')⟩

end Cert.Algebraic

end
-- ==== Proof.lean ====
/-
  The certificate: each claim from the module that proves it, behind the witnesses of the side conditions the
  programs state.
-/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The frames hold of every initial memory, so also of those the precondition admits. -/
theorem claim : Cert.Claim :=
  ⟨Cert.Kernel.Gen.facts, Cert.KernelIdeal.Gen.facts, Cert.ReferenceIdeal.Gen.facts, Cert.Pre_mid_finite.holds,
    Cert.Frames.kernel,
    Cert.Frames.kernelIdeal, fun m ρ _ => Cert.Frames.kernelIdeal m ρ trivial,
    Cert.Frames.referenceIdeal, fun m ρ _ => Cert.Frames.referenceIdeal m ρ trivial,
    Cert.Frames.root_two, Cert.Algebraic.kernel_reference⟩

end Cert.Proof

end
